-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x17408 : Shape := ⟨2, ![16384, 17408]⟩
abbrev S1024 : Shape := ⟨1, ![1024]⟩
abbrev S4 : Shape := ⟨1, ![4]⟩
abbrev S_ : Shape := ⟨0, ![]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x1024 : Shape := ⟨2, ![1, 1024]⟩
abbrev S16384x1024 : Shape := ⟨2, ![16384, 1024]⟩
abbrev S512x1024 : Shape := ⟨2, ![512, 1024]⟩
abbrev S512x128 : Shape := ⟨2, ![512, 128]⟩
abbrev S4x256x256 : Shape := ⟨3, ![4, 256, 256]⟩
abbrev S128x1 : Shape := ⟨2, ![128, 1]⟩
abbrev S128x128 : Shape := ⟨2, ![128, 128]⟩
abbrev S1 : Shape := ⟨1, ![1]⟩
abbrev S1x256 : Shape := ⟨2, ![1, 256]⟩
abbrev S128x256 : Shape := ⟨2, ![128, 256]⟩
abbrev S1x256x256 : Shape := ⟨3, ![1, 256, 256]⟩
abbrev S256x256 : Shape := ⟨2, ![256, 256]⟩

abbrev nBuf : Space → Nat
  | .hbm => 34
  | .vmem => 16
  | .smem => 1
  | _ => 0

abbrev bufTy : (tb : Table) → Fin (tcTables nBuf tb) → BufTy
  | .hbm, ⟨0, _⟩ => ⟨S16384x17408, .f32⟩
  | .hbm, ⟨1, _⟩ => ⟨S1024, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S4096, .i32⟩
  | .hbm, ⟨24, _⟩ => ⟨S4096, .f32⟩
  | .hbm, ⟨25, _⟩ => ⟨S4096x1, .f32⟩
  | .hbm, ⟨26, _⟩ => ⟨S1x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S1x1024, .f32⟩
  | .hbm, ⟨33, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S4x256x256, .f32⟩
  | .local _ .smem, ⟨0, _⟩ => ⟨S4, .f32⟩
  | _, _ => ⟨S16384x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x17408 : Shape := ⟨2, ![16384, 17408]⟩
abbrev S1024 : Shape := ⟨1, ![1024]⟩
abbrev S4x4096x17408 : Shape := ⟨3, ![4, 4096, 17408]⟩
abbrev S4x4096x1024 : Shape := ⟨3, ![4, 4096, 1024]⟩
abbrev S4x4096x4x256 : Shape := ⟨4, ![4, 4096, 4, 256]⟩
abbrev S4x4x4096x256 : Shape := ⟨4, ![4, 4, 4096, 256]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S4x4x4096x128 : Shape := ⟨4, ![4, 4, 4096, 128]⟩
abbrev S1x1x4096x128 : Shape := ⟨4, ![1, 1, 4096, 128]⟩
abbrev S4x4x4096x0 : Shape := ⟨4, ![4, 4, 4096, 0]⟩
abbrev S4 : Shape := ⟨1, ![4]⟩
abbrev S4x4x32x128x256 : Shape := ⟨5, ![4, 4, 32, 128, 256]⟩
abbrev S4x1 : Shape := ⟨2, ![4, 1]⟩
abbrev S4x128 : Shape := ⟨2, ![4, 128]⟩
abbrev S1x4x1x128x1 : Shape := ⟨5, ![1, 4, 1, 128, 1]⟩
abbrev S32x4x4x256x256 : Shape := ⟨5, ![32, 4, 4, 256, 256]⟩
abbrev S1x4x1x1 : Shape := ⟨4, ![1, 4, 1, 1]⟩
abbrev S1x4x4x256x256 : Shape := ⟨5, ![1, 4, 4, 256, 256]⟩
abbrev S4x4x256x256 : Shape := ⟨4, ![4, 4, 256, 256]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x4x32x128x128 : Shape := ⟨5, ![4, 4, 32, 128, 128]⟩
abbrev S1x4x1x128x128 : Shape := ⟨5, ![1, 4, 1, 128, 128]⟩
abbrev S4x4x4096 : Shape := ⟨3, ![4, 4, 4096]⟩
abbrev S4x4x4096x1 : Shape := ⟨4, ![4, 4, 4096, 1]⟩
abbrev S1x1x1024 : Shape := ⟨3, ![1, 1, 1024]⟩
abbrev S16384x1024 : Shape := ⟨2, ![16384, 1024]⟩

abbrev nBuf : Space → Nat
  | .hbm => 304
  | .vmem => 0
  | .smem => 0
  | _ => 0

abbrev hbmTy0_0 (i : Nat) : BufTy := match i % 128 with
  | 0 => ⟨S16384x17408, .f32⟩
  | 1 => ⟨S1024, .f32⟩
  | 2 => ⟨S4x4096x17408, .f32⟩
  | 3 => ⟨S4x4096x1024, .f32⟩
  | 4 => ⟨S4x4096x4x256, .f32⟩
  | 5 => ⟨S4x4x4096x256, .f32⟩
  | 6 => ⟨S4096, .i32⟩
  | 7 => ⟨S128, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S4096, .f32⟩
  | 19 => ⟨S4096x1, .f32⟩
  | 20 => ⟨S1x128, .f32⟩
  | 21 => ⟨S4096x128, .f32⟩
  | 22 => ⟨S4096x128, .f32⟩
  | 23 => ⟨S4096x128, .f32⟩
  | 24 => ⟨S4096x128, .f32⟩
  | 25 => ⟨S4096x128, .f32⟩
  | 26 => ⟨S4x4x4096x128, .f32⟩
  | 27 => ⟨S4x4x4096x128, .f32⟩
  | 28 => ⟨S1x1x4096x128, .f32⟩
  | 29 => ⟨S4x4x4096x128, .f32⟩
  | 30 => ⟨S4x4x4096x128, .f32⟩
  | 31 => ⟨S1x1x4096x128, .f32⟩
  | 32 => ⟨S4x4x4096x128, .f32⟩
  | 33 => ⟨S4x4x4096x128, .f32⟩
  | 34 => ⟨S4x4x4096x128, .f32⟩
  | 35 => ⟨S1x1x4096x128, .f32⟩
  | 36 => ⟨S4x4x4096x128, .f32⟩
  | 37 => ⟨S4x4x4096x128, .f32⟩
  | 38 => ⟨S1x1x4096x128, .f32⟩
  | 39 => ⟨S4x4x4096x128, .f32⟩
  | 40 => ⟨S4x4x4096x128, .f32⟩
  | 41 => ⟨S4x4x4096x128, .f32⟩
  | 42 => ⟨S4x4x4096x0, .f32⟩
  | 43 => ⟨S4x4x4096x256, .f32⟩
  | 44 => ⟨S4x4096x17408, .f32⟩
  | 45 => ⟨S4x4096x1024, .f32⟩
  | 46 => ⟨S4x4096x4x256, .f32⟩
  | 47 => ⟨S4x4x4096x256, .f32⟩
  | 48 => ⟨S4, .f32⟩
  | 49 => ⟨S_, .f32⟩
  | 50 => ⟨S4, .f32⟩
  | 51 => ⟨S4, .f32⟩
  | 52 => ⟨S_, .f32⟩
  | 53 => ⟨S4, .f32⟩
  | 54 => ⟨S4, .f32⟩
  | 55 => ⟨S4, .f32⟩
  | 56 => ⟨S4, .f32⟩
  | 57 => ⟨S4, .f32⟩
  | 58 => ⟨S_, .f32⟩
  | 59 => ⟨S4x4x4096x256, .f32⟩
  | 60 => ⟨S4x4x4096x256, .f32⟩
  | 61 => ⟨S4x4x32x128x256, .f32⟩
  | 62 => ⟨S4x4x32x128x256, .f32⟩
  | 63 => ⟨S128, .f32⟩
  | 64 => ⟨S4x1, .f32⟩
  | 65 => ⟨S_, .f32⟩
  | 66 => ⟨S128, .f32⟩
  | 67 => ⟨S128, .f32⟩
  | 68 => ⟨S1x128, .f32⟩
  | 69 => ⟨S4x128, .f32⟩
  | 70 => ⟨S4x128, .f32⟩
  | 71 => ⟨S4x128, .f32⟩
  | 72 => ⟨S4x128, .f32⟩
  | 73 => ⟨S1x4x1x128x1, .f32⟩
  | 74 => ⟨S4x4x32x128x256, .f32⟩
  | 75 => ⟨S4x4x32x128x256, .f32⟩
  | 76 => ⟨S32x4x4x256x256, .f32⟩
  | 77 => ⟨S_, .f32⟩
  | 78 => ⟨S4, .f32⟩
  | 79 => ⟨S4, .f32⟩
  | 80 => ⟨S4, .f32⟩
  | 81 => ⟨S1x4x1x1, .f32⟩
  | 82 => ⟨S1x4x4x256x256, .f32⟩
  | 83 => ⟨S4x4x256x256, .f32⟩
  | 84 => ⟨S_, .f32⟩
  | 85 => ⟨S4x4x256x256, .f32⟩
  | 86 => ⟨S_, .f32⟩
  | 87 => ⟨S32x4x4x256x256, .f32⟩
  | 88 => ⟨S_, .i32⟩
  | 89 => ⟨S32x4x4x256x256, .f32⟩
  | 90 => ⟨S1x4x1x1, .f32⟩
  | 91 => ⟨S_, .i32⟩
  | 92 => ⟨S4x4x256x256, .f32⟩
  | 93 => ⟨S32x4x4x256x256, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1x4x4x256x256, .f32⟩
  | 101 => ⟨S4x4x256x256, .f32⟩
  | 102 => ⟨S4x4x256x256, .f32⟩
  | 103 => ⟨S4x4x256x256, .f32⟩
  | 104 => ⟨S4x4x256x256, .f32⟩
  | 105 => ⟨S1x4x4x256x256, .f32⟩
  | 106 => ⟨S_, .i32⟩
  | 107 => ⟨S_, .i32⟩
  | 108 => ⟨S_, .i32⟩
  | 109 => ⟨S_, .i32⟩
  | 110 => ⟨S32x4x4x256x256, .f32⟩
  | 111 => ⟨S_, .i32⟩
  | 112 => ⟨S_, .i32⟩
  | 113 => ⟨S4x4096x17408, .f32⟩
  | 114 => ⟨S4x4096x1024, .f32⟩
  | 115 => ⟨S4x4096x4x256, .f32⟩
  | 116 => ⟨S4x4x4096x256, .f32⟩
  | 117 => ⟨S4096, .i32⟩
  | 118 => ⟨S128, .f32⟩
  | 119 => ⟨S128, .f32⟩
  | 120 => ⟨S_, .f32⟩
  | 121 => ⟨S128, .f32⟩
  | 122 => ⟨S128, .f32⟩
  | 123 => ⟨S_, .f32⟩
  | 124 => ⟨S128, .f32⟩
  | 125 => ⟨S128, .f32⟩
  | 126 => ⟨S_, .f32⟩
  | 127 => ⟨S128, .f32⟩
  | _ => ⟨S16384x17408, .f32⟩

abbrev hbmTy0_1 (i : Nat) : BufTy := match i % 128 with
  | 0 => ⟨S128, .f32⟩
  | 1 => ⟨S4096, .f32⟩
  | 2 => ⟨S4096x1, .f32⟩
  | 3 => ⟨S1x128, .f32⟩
  | 4 => ⟨S4096x128, .f32⟩
  | 5 => ⟨S4096x128, .f32⟩
  | 6 => ⟨S4096x128, .f32⟩
  | 7 => ⟨S4096x128, .f32⟩
  | 8 => ⟨S4096x128, .f32⟩
  | 9 => ⟨S4x4x4096x128, .f32⟩
  | 10 => ⟨S4x4x4096x128, .f32⟩
  | 11 => ⟨S1x1x4096x128, .f32⟩
  | 12 => ⟨S4x4x4096x128, .f32⟩
  | 13 => ⟨S4x4x4096x128, .f32⟩
  | 14 => ⟨S1x1x4096x128, .f32⟩
  | 15 => ⟨S4x4x4096x128, .f32⟩
  | 16 => ⟨S4x4x4096x128, .f32⟩
  | 17 => ⟨S4x4x4096x128, .f32⟩
  | 18 => ⟨S1x1x4096x128, .f32⟩
  | 19 => ⟨S4x4x4096x128, .f32⟩
  | 20 => ⟨S4x4x4096x128, .f32⟩
  | 21 => ⟨S1x1x4096x128, .f32⟩
  | 22 => ⟨S4x4x4096x128, .f32⟩
  | 23 => ⟨S4x4x4096x128, .f32⟩
  | 24 => ⟨S4x4x4096x128, .f32⟩
  | 25 => ⟨S4x4x4096x0, .f32⟩
  | 26 => ⟨S4x4x4096x256, .f32⟩
  | 27 => ⟨S4x4096x17408, .f32⟩
  | 28 => ⟨S4x4096x1024, .f32⟩
  | 29 => ⟨S4x4096x4x256, .f32⟩
  | 30 => ⟨S4x4x4096x256, .f32⟩
  | 31 => ⟨S4096, .i32⟩
  | 32 => ⟨S128, .f32⟩
  | 33 => ⟨S128, .f32⟩
  | 34 => ⟨S_, .f32⟩
  | 35 => ⟨S128, .f32⟩
  | 36 => ⟨S128, .f32⟩
  | 37 => ⟨S_, .f32⟩
  | 38 => ⟨S128, .f32⟩
  | 39 => ⟨S128, .f32⟩
  | 40 => ⟨S_, .f32⟩
  | 41 => ⟨S128, .f32⟩
  | 42 => ⟨S128, .f32⟩
  | 43 => ⟨S4096, .f32⟩
  | 44 => ⟨S4096x1, .f32⟩
  | 45 => ⟨S1x128, .f32⟩
  | 46 => ⟨S4096x128, .f32⟩
  | 47 => ⟨S4096x128, .f32⟩
  | 48 => ⟨S4096x128, .f32⟩
  | 49 => ⟨S4096x128, .f32⟩
  | 50 => ⟨S4096x128, .f32⟩
  | 51 => ⟨S4x4x4096x128, .f32⟩
  | 52 => ⟨S4x4x4096x128, .f32⟩
  | 53 => ⟨S1x1x4096x128, .f32⟩
  | 54 => ⟨S4x4x4096x128, .f32⟩
  | 55 => ⟨S4x4x4096x128, .f32⟩
  | 56 => ⟨S1x1x4096x128, .f32⟩
  | 57 => ⟨S4x4x4096x128, .f32⟩
  | 58 => ⟨S4x4x4096x128, .f32⟩
  | 59 => ⟨S4x4x4096x128, .f32⟩
  | 60 => ⟨S1x1x4096x128, .f32⟩
  | 61 => ⟨S4x4x4096x128, .f32⟩
  | 62 => ⟨S4x4x4096x128, .f32⟩
  | 63 => ⟨S1x1x4096x128, .f32⟩
  | 64 => ⟨S4x4x4096x128, .f32⟩
  | 65 => ⟨S4x4x4096x128, .f32⟩
  | 66 => ⟨S4x4x4096x128, .f32⟩
  | 67 => ⟨S4x4x4096x0, .f32⟩
  | 68 => ⟨S4x4x4096x256, .f32⟩
  | 69 => ⟨S4x4096x17408, .f32⟩
  | 70 => ⟨S4x4096x1024, .f32⟩
  | 71 => ⟨S4x4096x4x256, .f32⟩
  | 72 => ⟨S4x4x4096x256, .f32⟩
  | 73 => ⟨S4, .f32⟩
  | 74 => ⟨S_, .f32⟩
  | 75 => ⟨S4, .f32⟩
  | 76 => ⟨S4, .f32⟩
  | 77 => ⟨S_, .f32⟩
  | 78 => ⟨S4, .f32⟩
  | 79 => ⟨S4, .f32⟩
  | 80 => ⟨S4, .f32⟩
  | 81 => ⟨S4, .f32⟩
  | 82 => ⟨S4, .f32⟩
  | 83 => ⟨S4x4x32x128x256, .f32⟩
  | 84 => ⟨S_, .f32⟩
  | 85 => ⟨S4x4x4096x256, .f32⟩
  | 86 => ⟨S4x4x4096x256, .f32⟩
  | 87 => ⟨S4x4x32x128x256, .f32⟩
  | 88 => ⟨S4x4x32x128x256, .f32⟩
  | 89 => ⟨S128, .f32⟩
  | 90 => ⟨S128x1, .f32⟩
  | 91 => ⟨S1x128, .f32⟩
  | 92 => ⟨S128x128, .f32⟩
  | 93 => ⟨S128x128, .f32⟩
  | 94 => ⟨S128x128, .f32⟩
  | 95 => ⟨S128, .i32⟩
  | 96 => ⟨S128x1, .i32⟩
  | 97 => ⟨S128, .i32⟩
  | 98 => ⟨S1x128, .i32⟩
  | 99 => ⟨S128x128, .i32⟩
  | 100 => ⟨S128x128, .i32⟩
  | 101 => ⟨S128x128, .i1⟩
  | 102 => ⟨S4x1x1, .f32⟩
  | 103 => ⟨S_, .f32⟩
  | 104 => ⟨S128x128, .f32⟩
  | 105 => ⟨S128x128, .f32⟩
  | 106 => ⟨S1x128x128, .f32⟩
  | 107 => ⟨S4x128x128, .f32⟩
  | 108 => ⟨S4x128x128, .f32⟩
  | 109 => ⟨S4x128x128, .f32⟩
  | 110 => ⟨S4x128x128, .f32⟩
  | 111 => ⟨S_, .f32⟩
  | 112 => ⟨S_, .f32⟩
  | 113 => ⟨S4x128x128, .i1⟩
  | 114 => ⟨S4x128x128, .f32⟩
  | 115 => ⟨S4x128x128, .f32⟩
  | 116 => ⟨S4x4x32x128x128, .f32⟩
  | 117 => ⟨S1x4x1x128x128, .f32⟩
  | 118 => ⟨S4x4x32x128x128, .f32⟩
  | 119 => ⟨S4x4x32x128x128, .f32⟩
  | 120 => ⟨S4x4x32x128x256, .f32⟩
  | 121 => ⟨S4x1, .f32⟩
  | 122 => ⟨S_, .f32⟩
  | 123 => ⟨S128, .f32⟩
  | 124 => ⟨S128, .f32⟩
  | 125 => ⟨S1x128, .f32⟩
  | 126 => ⟨S4x128, .f32⟩
  | 127 => ⟨S4x128, .f32⟩
  | _ => ⟨S16384x17408, .f32⟩

abbrev hbmTy0_2 (i : Nat) : BufTy := match i % 128 with
  | 0 => ⟨S4x128, .f32⟩
  | 1 => ⟨S4x128, .f32⟩
  | 2 => ⟨S1x4x1x128x1, .f32⟩
  | 3 => ⟨S4x4x32x128x256, .f32⟩
  | 4 => ⟨S4x4x32x128x256, .f32⟩
  | 5 => ⟨S4x4x32x128x256, .f32⟩
  | 6 => ⟨S4x4x32x128x256, .f32⟩
  | 7 => ⟨S4x4x4096x256, .f32⟩
  | 8 => ⟨S_, .f32⟩
  | 9 => ⟨S4x4x4096, .f32⟩
  | 10 => ⟨S4x4x4096x1, .f32⟩
  | 11 => ⟨S_, .f32⟩
  | 12 => ⟨S4x4x4096x1, .f32⟩
  | 13 => ⟨S4x4x4096x1, .f32⟩
  | 14 => ⟨S4x4x4096x256, .f32⟩
  | 15 => ⟨S4x4x4096x256, .f32⟩
  | 16 => ⟨S4x4x4096x256, .f32⟩
  | 17 => ⟨S_, .f32⟩
  | 18 => ⟨S4x4x4096, .f32⟩
  | 19 => ⟨S4x4x4096x1, .f32⟩
  | 20 => ⟨S_, .f32⟩
  | 21 => ⟨S4x4x4096x1, .f32⟩
  | 22 => ⟨S4x4x4096x1, .f32⟩
  | 23 => ⟨S_, .f32⟩
  | 24 => ⟨S4x4x4096x1, .f32⟩
  | 25 => ⟨S4x4x4096x1, .f32⟩
  | 26 => ⟨S4x4x4096x1, .f32⟩
  | 27 => ⟨S4x4x4096x256, .f32⟩
  | 28 => ⟨S4x4x4096x256, .f32⟩
  | 29 => ⟨S4x4096x4x256, .f32⟩
  | 30 => ⟨S4x4096x1024, .f32⟩
  | 31 => ⟨S1x1x1024, .f32⟩
  | 32 => ⟨S4x4096x1024, .f32⟩
  | 33 => ⟨S4x4096x1024, .f32⟩
  | 34 => ⟨S4x4096x17408, .f32⟩
  | 35 => ⟨S4x4096x1024, .f32⟩
  | 36 => ⟨S4x4096x1024, .f32⟩
  | 37 => ⟨S4x4096x1024, .f32⟩
  | 38 => ⟨S_, .f32⟩
  | 39 => ⟨S4x4096x1024, .f32⟩
  | 40 => ⟨S4x4096x1024, .f32⟩
  | 41 => ⟨S_, .f32⟩
  | 42 => ⟨S4x4096x1024, .f32⟩
  | 43 => ⟨S4x4096x1024, .f32⟩
  | 44 => ⟨S4x4096x1024, .f32⟩
  | 45 => ⟨S4x4096x1024, .f32⟩
  | 46 => ⟨S4x4096x1024, .bf16⟩
  | 47 => ⟨S16384x1024, .bf16⟩
  | _ => ⟨S16384x17408, .f32⟩

abbrev hbmTy (i : Nat) : BufTy := match i / 128 with
  | 0 => hbmTy0_0 i
  | 1 => hbmTy0_1 i
  | 2 => hbmTy0_2 i
  | _ => ⟨S16384x17408, .f32⟩

abbrev bufTy : (tb : Table) → Fin (tcTables nBuf tb) → BufTy
  | .hbm, ⟨i, _⟩ => hbmTy i
  | _, _ => ⟨S16384x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_5 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_6 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_7 : Ref sig .tc := ⟨.hbm, 84, rfl⟩
abbrev main_v74 : Ref sig .tc := ⟨.hbm, 85, rfl⟩
abbrev main_cst_8 : Ref sig .tc := ⟨.hbm, 86, rfl⟩
abbrev main_v75 : Ref sig .tc := ⟨.hbm, 87, rfl⟩
abbrev main_c : Ref sig .tc := ⟨.hbm, 88, rfl⟩
abbrev main_v76_0 : Ref sig .tc := ⟨.hbm, 89, rfl⟩
abbrev main_v76_1 : Ref sig .tc := ⟨.hbm, 90, rfl⟩
abbrev main_v76_2 : Ref sig .tc := ⟨.hbm, 91, rfl⟩
abbrev main_v76_3 : Ref sig .tc := ⟨.hbm, 92, rfl⟩
abbrev main_v76_4 : Ref sig .tc := ⟨.hbm, 93, rfl⟩
abbrev main_while0c_c_30 : Ref sig .tc := ⟨.hbm, 94, rfl⟩
abbrev main_while0c_v240 : Ref sig .tc := ⟨.hbm, 95, rfl⟩
abbrev main_while0b_call0_c : Ref sig .tc := ⟨.hbm, 96, rfl⟩
abbrev main_while0b_call0_c_0 : Ref sig .tc := ⟨.hbm, 97, rfl⟩
abbrev main_while0b_call0_c_1 : Ref sig .tc := ⟨.hbm, 98, rfl⟩
abbrev main_while0b_call0_c_2 : Ref sig .tc := ⟨.hbm, 99, rfl⟩
abbrev main_while0b_call0_v0 : Ref sig .tc := ⟨.hbm, 100, rfl⟩
abbrev main_while0b_v240 : Ref sig .tc := ⟨.hbm, 101, rfl⟩
abbrev main_while0b_v241 : Ref sig .tc := ⟨.hbm, 102, rfl⟩
abbrev main_while0b_v242 : Ref sig .tc := ⟨.hbm, 103, rfl⟩
abbrev main_while0b_v243 : Ref sig .tc := ⟨.hbm, 104, rfl⟩
abbrev main_while0b_call1_v0 : Ref sig .tc := ⟨.hbm, 105, rfl⟩
abbrev main_while0b_call1_c : Ref sig .tc := ⟨.hbm, 106, rfl⟩
abbrev main_while0b_call1_c_0 : Ref sig .tc := ⟨.hbm, 107, rfl⟩
abbrev main_while0b_call1_c_1 : Ref sig .tc := ⟨.hbm, 108, rfl⟩
abbrev main_while0b_call1_c_2 : Ref sig .tc := ⟨.hbm, 109, rfl⟩
abbrev main_while0b_v244 : Ref sig .tc := ⟨.hbm, 110, rfl⟩
abbrev main_while0b_c_30 : Ref sig .tc := ⟨.hbm, 111, rfl⟩
abbrev main_while0b_v245 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_9 : Ref sig .tc := ⟨.hbm, 120, rfl⟩
abbrev main_v84 : Ref sig .tc := ⟨.hbm, 121, rfl⟩
abbrev main_v85 : Ref sig .tc := ⟨.hbm, 122, rfl⟩
abbrev main_cst_10 : Ref sig .tc := ⟨.hbm, 123, rfl⟩
abbrev main_v86 : Ref sig .tc := ⟨.hbm, 124, rfl⟩
abbrev main_v87 : Ref sig .tc := ⟨.hbm, 125, rfl⟩
abbrev main_cst_11 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_12 : Ref sig .tc := ⟨.hbm, 162, rfl⟩
abbrev main_v123 : Ref sig .tc := ⟨.hbm, 163, rfl⟩
abbrev main_v124 : Ref sig .tc := ⟨.hbm, 164, rfl⟩
abbrev main_cst_13 : Ref sig .tc := ⟨.hbm, 165, rfl⟩
abbrev main_v125 : Ref sig .tc := ⟨.hbm, 166, rfl⟩
abbrev main_v126 : Ref sig .tc := ⟨.hbm, 167, rfl⟩
abbrev main_cst_14 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_15 : Ref sig .tc := ⟨.hbm, 202, rfl⟩
abbrev main_v160 : Ref sig .tc := ⟨.hbm, 203, rfl⟩
abbrev main_v161 : Ref sig .tc := ⟨.hbm, 204, rfl⟩
abbrev main_cst_16 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_17 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_18 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_19 : Ref sig .tc := ⟨.hbm, 239, rfl⟩
abbrev main_call2_v0 : Ref sig .tc := ⟨.hbm, 240, rfl⟩
abbrev main_call2_v1 : Ref sig .tc := ⟨.hbm, 241, rfl⟩
abbrev main_call2_v2 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_20 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_cst_21 : Ref sig .tc := ⟨.hbm, 264, rfl⟩
abbrev main_v213 : Ref sig .tc := ⟨.hbm, 265, rfl⟩
abbrev main_v214 : Ref sig .tc := ⟨.hbm, 266, rfl⟩
abbrev main_cst_22 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_cst_23 : Ref sig .tc := ⟨.hbm, 273, rfl⟩
abbrev main_v220 : Ref sig .tc := ⟨.hbm, 274, rfl⟩
abbrev main_v221 : Ref sig .tc := ⟨.hbm, 275, rfl⟩
abbrev main_cst_24 : Ref sig .tc := ⟨.hbm, 276, rfl⟩
abbrev main_v222 : Ref sig .tc := ⟨.hbm, 277, rfl⟩
abbrev main_v223 : Ref sig .tc := ⟨.hbm, 278, rfl⟩
abbrev main_cst_25 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_call3_v0 : Ref sig .tc := ⟨.hbm, 292, rfl⟩
abbrev main_call3_v1 : Ref sig .tc := ⟨.hbm, 293, rfl⟩
abbrev main_call3_cst : Ref sig .tc := ⟨.hbm, 294, rfl⟩
abbrev main_call3_v2 : Ref sig .tc := ⟨.hbm, 295, rfl⟩
abbrev main_call3_v3 : Ref sig .tc := ⟨.hbm, 296, rfl⟩
abbrev main_call3_cst_0 : Ref sig .tc := ⟨.hbm, 297, rfl⟩
abbrev main_call3_v4 : Ref sig .tc := ⟨.hbm, 298, rfl⟩
abbrev main_call3_v5 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S512x5632 : Shape := ⟨2, ![512, 5632]⟩
abbrev S1x5632x2048 : Shape := ⟨3, ![1, 5632, 2048]⟩
abbrev S512x2048 : Shape := ⟨2, ![512, 2048]⟩
abbrev S5632x2048 : Shape := ⟨2, ![5632, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .bf16⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .bf16⟩
  | .hbm, ⟨2, _⟩ => ⟨S16384x2048, .f32⟩
  | .hbm, ⟨3, _⟩ => ⟨S2048, .f32⟩
  | .hbm, ⟨4, _⟩ => ⟨S16384x5632, .f32⟩
  | .hbm, ⟨5, _⟩ => ⟨S1x5632x2048, .bf16⟩
  | .hbm, ⟨6, _⟩ => ⟨S5632x2048, .bf16⟩
  | .hbm, ⟨7, _⟩ => ⟨S5632x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S16384x1024 : Shape := ⟨2, ![16384, 1024]⟩
abbrev S16384x17408 : Shape := ⟨2, ![16384, 17408]⟩
abbrev S2x1024x2048 : Shape := ⟨3, ![2, 1024, 2048]⟩
abbrev S2x2048x2048 : Shape := ⟨3, ![2, 2048, 2048]⟩
abbrev S16384x2048 : Shape := ⟨2, ![16384, 2048]⟩
abbrev S256x1024 : Shape := ⟨2, ![256, 1024]⟩
abbrev S1x1024x2048 : Shape := ⟨3, ![1, 1024, 2048]⟩
abbrev S1x2048x2048 : Shape := ⟨3, ![1, 2048, 2048]⟩
abbrev S256x2048 : Shape := ⟨2, ![256, 2048]⟩
abbrev S1x1024x1024 : Shape := ⟨3, ![1, 1024, 1024]⟩
abbrev S1024x1024 : Shape := ⟨2, ![1024, 1024]⟩
abbrev S2048x2048 : Shape := ⟨2, ![2048, 2048]⟩

abbrev nBuf : Space → Nat
  | .hbm => 10
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x17408, .f32⟩
  | .hbm, ⟨4, _⟩ => ⟨S2x1024x2048, .bf16⟩
  | .hbm, ⟨5, _⟩ => ⟨S2x1024x2048, .bf16⟩
  | .hbm, ⟨6, _⟩ => ⟨S2x1024x2048, .bf16⟩
  | .hbm, ⟨7, _⟩ => ⟨S2x2048x2048, .bf16⟩
  | .hbm, ⟨8, _⟩ => ⟨S16384x2048, .f32⟩
  | .hbm, ⟨9, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024x2048, .bf16⟩
  | .local _ .vmem, ⟨19, _⟩ => ⟨S1x1024x2048, .bf16⟩
  | .local _ .vmem, ⟨20, _⟩ => ⟨S1x1024x2048, .bf16⟩
  | .local _ .vmem, ⟨21, _⟩ => ⟨S1x2048x2048, .bf16⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_7 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_8 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16384x1024 : Shape := ⟨2, ![16384, 1024]⟩
abbrev S16384x17408 : Shape := ⟨2, ![16384, 17408]⟩
abbrev S2x1024x2048 : Shape := ⟨3, ![2, 1024, 2048]⟩
abbrev S2x2048x2048 : Shape := ⟨3, ![2, 2048, 2048]⟩
abbrev S16384x2048 : Shape := ⟨2, ![16384, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x17408, .f32⟩
  | .hbm, ⟨4, _⟩ => ⟨S2x1024x2048, .bf16⟩
  | .hbm, ⟨5, _⟩ => ⟨S2x1024x2048, .bf16⟩
  | .hbm, ⟨6, _⟩ => ⟨S2x1024x2048, .bf16⟩
  | .hbm, ⟨7, _⟩ => ⟨S2x2048x2048, .bf16⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S1x1024x2048, .bf16⟩
  | .hbm, ⟨13, _⟩ => ⟨S1024x2048, .bf16⟩
  | .hbm, ⟨14, _⟩ => ⟨S1x1024x2048, .bf16⟩
  | .hbm, ⟨15, _⟩ => ⟨S1024x2048, .bf16⟩
  | .hbm, ⟨16, _⟩ => ⟨S1x1024x2048, .bf16⟩
  | .hbm, ⟨17, _⟩ => ⟨S1024x2048, .bf16⟩
  | .hbm, ⟨18, _⟩ => ⟨S1x2048x2048, .bf16⟩
  | .hbm, ⟨19, _⟩ => ⟨S2048x2048, .bf16⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S2048x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S1x2048x17408 : Shape := ⟨3, ![1, 2048, 17408]⟩
abbrev S1x2048 : Shape := ⟨2, ![1, 2048]⟩
abbrev S16384x17408 : Shape := ⟨2, ![16384, 17408]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x17408, .bf16⟩
  | .hbm, ⟨3, _⟩ => ⟨S1x2048, .f32⟩
  | .hbm, ⟨4, _⟩ => ⟨S16384x17408, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048 : Shape := ⟨1, ![2048]⟩
abbrev S1x2048x17408 : Shape := ⟨3, ![1, 2048, 17408]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x17408 : Shape := ⟨2, ![2048, 17408]⟩
abbrev S16384x17408 : Shape := ⟨2, ![16384, 17408]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x17408, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x17408, .bf16⟩
  | .hbm, ⟨20, _⟩ => ⟨S2048x17408, .f32⟩
  | .hbm, ⟨21, _⟩ => ⟨S16384x17408, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2x2048x5632 : Shape := ⟨3, ![2, 2048, 5632]⟩
abbrev S1x2048 : Shape := ⟨2, ![1, 2048]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x5632, .bf16⟩
  | .hbm, ⟨3, _⟩ => ⟨S2x2048x5632, .bf16⟩
  | .hbm, ⟨4, _⟩ => ⟨S1x2048, .f32⟩
  | .hbm, ⟨5, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x2048 : Shape := ⟨2, ![16384, 2048]⟩
abbrev S2048 : Shape := ⟨1, ![2048]⟩
abbrev S2x2048x5632 : Shape := ⟨3, ![2, 2048, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x5632 : Shape := ⟨3, ![1, 2048, 5632]⟩
abbrev S2048x5632 : Shape := ⟨2, ![2048, 5632]⟩
abbrev S16384x5632 : Shape := ⟨2, ![16384, 5632]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x5632, .bf16⟩
  | .hbm, ⟨3, _⟩ => ⟨S2x2048x5632, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S1x2048x5632, .bf16⟩
  | .hbm, ⟨21, _⟩ => ⟨S2048x5632, .bf16⟩
  | .hbm, ⟨22, _⟩ => ⟨S2048x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S1x2048x5632, .bf16⟩
  | .hbm, ⟨34, _⟩ => ⟨S2048x5632, .bf16⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel6.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S512x5632 : Shape := ⟨2, ![512, 5632]⟩
abbrev S1x5632x2048 : Shape := ⟨3, ![1, 5632, 2048]⟩
abbrev S512x2048 : Shape := ⟨2, ![512, 2048]⟩
abbrev S5632x2048 : Shape := ⟨2, ![5632, 2048]⟩

abbrev nBuf : Space → Nat
  | .hbm => 6
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .bf16⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x5632x2048 : Shape := ⟨3, ![1, 5632, 2048]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .bf16⟩
  | .hbm, ⟨2, _⟩ => ⟨S16384x2048, .f32⟩
  | .hbm, ⟨3, _⟩ => ⟨S2048, .f32⟩
  | .hbm, ⟨4, _⟩ => ⟨S16384x5632, .f32⟩
  | .hbm, ⟨5, _⟩ => ⟨S1x5632x2048, .bf16⟩
  | .hbm, ⟨6, _⟩ => ⟨S5632x2048, .bf16⟩
  | .hbm, ⟨7, _⟩ => ⟨S5632x2048, .f32⟩
  | .hbm, ⟨8, _⟩ => ⟨S16384x2048, .f32⟩
  | .hbm, ⟨9, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.RetRun.lean ====
/- The reference's loop over the chunks. A valuation of its buffers after `j` trips holds the state that `j` applications of
   the trip's step make from the first one, and the result is the operations after the loop of that state. -/
module

public import proofs.«01_k».proof.Proof.Gen.ReferenceIdeal.Run
public import proofs.«01_k».proof.Proof.Gen.ReferenceIdeal.Step
public import Idealize.ShloMosaic.Lib.Pipeline.ValueKit

@[expose] public section

set_option maxRecDepth 65536

noncomputable section

open Idealize.ShloMosaic Idealize.ShloMosaic.TcCoe Idealize.SL.Sem Idealize.ShloMosaic.StableHlo
open Idealize.ShloMosaic.Pipeline (Dat)

namespace Cert.Retention

open Cert.ReferenceIdeal Cert.ReferenceIdeal.Gen Cert.ReferenceIdeal.Value

variable (m : (ℓ : Loc nD τ sig) → Buf (Elt Ideal) ℓ)

/-- The loop's state after `j` trips. -/
def trips (a0 : FVec Ideal S16384x17408 .f32) : ℕ → Step.State Ideal
  | 0 => Step.init a0
  | j + 1 => Step.step j (trips a0 j)

/-- The buffers hold the loop's state `s` and the number of trips made. -/
structure Holds (V0 : Valuation τ sig (Elt Ideal)) (s : Step.State Ideal) (j : ℕ) : Prop where
  chunks : V0 (Proc.devRef .tc main_v76_0) = s.main_v76_0
  decay : V0 (Proc.devRef .tc main_v76_1) = (Step.K_main_v71 (F := Ideal))
  count : V0 (Proc.devRef .tc main_v76_2) = constantI S_ 32 (BitVec.ofNat 32 j)
  state : V0 (Proc.devRef .tc main_v76_3) = s.main_v76_3
  stack : V0 (Proc.devRef .tc main_v76_4) = s.main_v76_4

theorem holds_step (V0 : Valuation τ sig (Elt Ideal)) (s : Step.State Ideal) (j : ℕ) (h : Holds V0 s j) :
    Holds (STEP V0) (Step.step j s) (j + 1) where
  chunks := (STEP_main_v76_0 V0).trans h.chunks
  decay := (STEP_main_v76_1 V0).trans h.decay
  count := by
    rw [STEP_main_v76_2]
    unfold step_main_v76_2
    rw [h.count]
    funext i
    show BitVec.ofNat 32 j + 1#32 = BitVec.ofNat 32 (j + 1)
    exact (BitVec.ofNat_add j 1).symm
  state := by
    rw [STEP_main_v76_3]
    unfold step_main_v76_3
    rw [h.chunks, h.decay, h.count, h.state]
    rfl
  stack := by
    rw [STEP_main_v76_4]
    unfold step_main_v76_4
    rw [h.count, h.state, h.stack]
    rfl

set_option maxHeartbeats 2000000 in
theorem holds_entry (c : Dev nD) :
    Holds (entryContents preI m c) (trips (m ((c : Thread nD τ).loc main_arg0)) 0) 0 := by
  constructor <;> (simp only [entryContents, afterL_cons, afterL_nil]; after_reads_simp) <;> rfl

theorem holds (c : Dev nD) : ∀ j : ℕ,
    Holds (STEP^[j] (entryContents preI m c)) (trips (m ((c : Thread nD τ).loc main_arg0)) j) j := by
  intro j
  induction j with
  | zero => exact holds_entry m c
  | succ j ih =>
    rw [Function.iterate_succ_apply']
    exact holds_step _ _ j ih

set_option maxHeartbeats 2000000 in
/-- The result after the loop. -/
theorem out_eq (c : Dev nD) :
    out_main_v239 (STEP^[32] (entryContents preI m c))
      = Step.R_main_v239 (trips (m ((c : Thread nD τ).loc main_arg0)) 32)
          (m ((c : Thread nD τ).loc main_arg0)) (m ((c : Thread nD τ).loc main_arg1)) := by
  have h := holds m c 32
  have h0 := iter_main_arg0 m c 32
  have h1 := iter_main_arg1 m c 32
  generalize STEP^[32] (entryContents preI m c) = V0 at h h0 h1 ⊢
  unfold out_main_v239
  rw [h.stack, h0, h1]
  rfl

end Cert.Retention

end
-- ==== Proof.RetRef.lean ====
/- The reference after its loop, stage by stage: the heads and their rotation, the scores of a chunk against itself, the
   product with the state that the chunk finds, the normalisation, gain and gate. The printed term is these stages. -/
module

public import proofs.«01_k».proof.Proof.RetRun

@[expose] public section

set_option maxRecDepth 65536

noncomputable section

open Idealize.ShloMosaic Idealize.ShloMosaic.TcCoe Idealize.SL.Sem
open Idealize.ShloMosaic.Pipeline (Dat)

namespace Cert.Retention

open Cert.ReferenceIdeal Cert.ReferenceIdeal.Gen Cert.ReferenceIdeal.Step

/-- The heads of the projection's first 1024 columns: the queries. -/
def qHeads (a0 : FVec Ideal S16384x17408 .f32) : FVec Ideal S4x4x4096x256 .f32 :=
  transpose S4x4x4096x256 [0, 2, 1, 3]
    (shapeCast S4x4096x4x256 (extractStridedSlice S4x4096x1024 ![0, 0, 0] (A_main_v0 (F := Ideal) a0 : FVec Ideal S4x4096x17408 .f32) slices_S4x4096x17408_S4x4096x1024_0_0_0)
      shapeCasts_S4x4096x1024_S4x4096x4x256) transposes_S4x4096x4x256_S4x4x4096x256_0_2_1_3

/-- The rotation by the position's angles. -/
def rotate (x : FVec Ideal S4x4x4096x256 .f32) : FVec Ideal S4x4x4096x256 .f32 :=
  concatenate S4x4x4096x256 3
    [⟨S4x4x4096x128, (subf (mulf (extractStridedSlice S4x4x4096x128 ![0, 0, 0, 0] x slices_S4x4x4096x256_S4x4x4096x128_0_0_0_0) (K_main_v24 (F := Ideal) : FVec Ideal S4x4x4096x128 .f32))
        (mulf (extractStridedSlice S4x4x4096x128 ![0, 0, 0, 128] x slices_S4x4x4096x256_S4x4x4096x128_0_0_0_128) (K_main_v27 (F := Ideal) : FVec Ideal S4x4x4096x128 .f32)) : FVec Ideal S4x4x4096x128 .f32)⟩,
      ⟨S4x4x4096x128, (addf (mulf (extractStridedSlice S4x4x4096x128 ![0, 0, 0, 128] x slices_S4x4x4096x256_S4x4x4096x128_0_0_0_128) (K_main_v31 (F := Ideal) : FVec Ideal S4x4x4096x128 .f32))
        (mulf (extractStridedSlice S4x4x4096x128 ![0, 0, 0, 0] x slices_S4x4x4096x256_S4x4x4096x128_0_0_0_0) (K_main_v34 (F := Ideal) : FVec Ideal S4x4x4096x128 .f32)) : FVec Ideal S4x4x4096x128 .f32)⟩,
      ⟨S4x4x4096x0, (extractStridedSlice S4x4x4096x0 ![0, 0, 0, 256] x slices_S4x4x4096x256_S4x4x4096x0_0_0_0_256 : FVec Ideal S4x4x4096x0 .f32)⟩]
    concatenates_S4x4x4096x128_S4x4x4096x128_S4x4x4096x0_S4x4x4096x256_d3

/-- The rotated queries by chunks. -/
def qChunks (a0 : FVec Ideal S16384x17408 .f32) : FVec Ideal S4x4x32x128x256 .f32 :=
  shapeCast S4x4x32x128x256 (rotate (qHeads a0)) shapeCasts_S4x4x4096x256_S4x4x32x128x256

/-- The places inside a chunk. -/
def place : FVec Ideal S128 .f32 := sitofp .f32 (iotaInDim S128 32 0)

/-- The decay from place `j` to place `i` of a chunk: zero where `j` is later. -/
def decays : FVec Ideal S4x128x128 .f32 :=
  select
    (broadcastInDim S4x128x128 ![1, 2] bcast_S128x128_S4x128x128_1_2
      (cmpi .sge
        (broadcastInDim S128x128 ![0, 1] bcast_S128x1_S128x128_0_1 (broadcastInDim S128x1 ![0] bcast_S128_S128x1_0 (iotaInDim S128 32 0)))
        (broadcastInDim S128x128 ![0, 1] bcast_S1x128_S128x128_0_1 (broadcastInDim S1x128 ![1] bcast_S128_S1x128_1 (iotaInDim S128 32 0)))))
    (Host.exp (mulf
      (broadcastInDim S4x128x128 ![0, 1, 2] bcast_S4x1x1_S4x128x128_0_1_2 (broadcastInDim S4x1x1 ![0] bcast_S4_S4x1x1_0 (K_main_v50 (F := Ideal) : FVec Ideal S4 .f32)))
      (broadcastInDim S4x128x128 ![0, 1, 2] bcast_S1x128x128_S4x128x128_0_1_2
        (broadcastInDim S1x128x128 ![1, 2] bcast_S128x128_S1x128x128_1_2
          (maximumf
            (subf
              (broadcastInDim S128x128 ![0, 1] bcast_S128x1_S128x128_0_1 (broadcastInDim S128x1 ![0] bcast_S128_S128x1_0 place))
              (broadcastInDim S128x128 ![0, 1] bcast_S1x128_S128x128_0_1 (broadcastInDim S1x128 ![1] bcast_S128_S1x128_1 place)))
            (broadcastInDim S128x128 ![] bcast_S_S128x128 (constant S_ .f32 0x00000000#32)))))))
    (broadcastInDim S4x128x128 ![] bcast_S_S4x128x128 (constant S_ .f32 0x00000000#32))

/-- The scores of a chunk against itself, decayed. -/
def scores (a0 : FVec Ideal S16384x17408 .f32) : FVec Ideal S4x4x32x128x128 .f32 :=
  mulf (Host.dotGeneral (φ₁ := .f32) (φ₂ := .f32) dot_S4x4x32x128x256_S4x4x32x128x256_S4x4x32x128x128_4_4_3_3_012_012 none (qChunks a0) (A_main_v53 (F := Ideal) a0 : FVec Ideal S4x4x32x128x256 .f32))
    (broadcastInDim S4x4x32x128x128 ![0, 1, 2, 3, 4] bcast_S1x4x1x128x128_S4x4x32x128x128_0_1_2_3_4
      (broadcastInDim S1x4x1x128x128 ![1, 3, 4] bcast_S4x128x128_S1x4x1x128x128_1_3_4 decays))

/-- The queries weighted by the decay since the chunk's start. -/
def qWeighted (a0 : FVec Ideal S16384x17408 .f32) : FVec Ideal S4x4x32x128x256 .f32 :=
  mulf (qChunks a0)
    (broadcastInDim S4x4x32x128x256 ![0, 1, 2, 3, 4] bcast_S1x4x1x128x1_S4x4x32x128x256_0_1_2_3_4
      (broadcastInDim S1x4x1x128x1 ![1, 3] bcast_S4x128_S1x4x1x128x1_1_3
        (Host.exp (mulf
          (broadcastInDim S4x128 ![0, 1] bcast_S4x1_S4x128_0_1 (broadcastInDim S4x1 ![0] bcast_S4_S4x1_0 (K_main_v50 (F := Ideal) : FVec Ideal S4 .f32)))
          (broadcastInDim S4x128 ![0, 1] bcast_S1x128_S4x128_0_1 (broadcastInDim S1x128 ![1] bcast_S128_S1x128_1
            (addf place (broadcastInDim S128 ![] bcast_S_S128 (constant S_ .f32 0x3F800000#32)))))))))

/-- The retention by chunks, from the states `T` that the chunks find. -/
def retained (a0 : FVec Ideal S16384x17408 .f32) (T : FVec Ideal S32x4x4x256x256 .f32) : FVec Ideal S4x4x32x128x256 .f32 :=
  addf (Host.dotGeneral (φ₁ := .f32) (φ₂ := .f32) dot_S4x4x32x128x128_S4x4x32x128x256_S4x4x32x128x256_4_3_3_4_012_012 none (scores a0) (A_main_v54 (F := Ideal) a0 : FVec Ideal S4x4x32x128x256 .f32))
    (Host.dotGeneral dot_S4x4x32x128x256_S32x4x4x256x256_S4x4x32x128x256_4_3_3_4_012_120 none (qWeighted a0) T)

/-- The retention by rows. -/
def rows (a0 : FVec Ideal S16384x17408 .f32) (T : FVec Ideal S32x4x4x256x256 .f32) : FVec Ideal S4x4x4096x256 .f32 :=
  shapeCast S4x4x4096x256 (retained a0 T) shapeCasts_S4x4x32x128x256_S4x4x4096x256

/-- The mean of a head's row. -/
def mean (x : FVec Ideal S4x4x4096x256 .f32) : FVec Ideal S4x4x4096x1 .f32 :=
  Host.divf (broadcastInDim S4x4x4096x1 ![0, 1, 2] bcast_S4x4x4096_S4x4x4096x1_0_1_2
      (Host.reduceAdd x (constant S_ .f32 0x00000000#32) reducesTo_S4x4x4096x256_S4x4x4096_d3 h_S_))
    (broadcastInDim S4x4x4096x1 ![] bcast_S_S4x4x4096x1 (constant S_ .f32 0x43800000#32))

/-- A head's row less its mean. -/
def centered (x : FVec Ideal S4x4x4096x256 .f32) : FVec Ideal S4x4x4096x256 .f32 :=
  subf x (broadcastInDim S4x4x4096x256 ![0, 1, 2, 3] bcast_S4x4x4096x1_S4x4x4096x256_0_1_2_3 (mean x))

/-- The normalisation of a head's rows. -/
def normed (x : FVec Ideal S4x4x4096x256 .f32) : FVec Ideal S4x4x4096x256 .f32 :=
  mulf (centered x) (broadcastInDim S4x4x4096x256 ![0, 1, 2, 3] bcast_S4x4x4096x1_S4x4x4096x256_0_1_2_3
    (Host.rsqrt (addf (mean (mulf (centered x) (centered x)))
      (broadcastInDim S4x4x4096x1 ![] bcast_S_S4x4x4096x1 (constant S_ .f32 0x358637BD#32)))))

/-- The gate's columns of the projection. -/
def gates (a0 : FVec Ideal S16384x17408 .f32) : FVec Ideal S4x4096x1024 .f32 :=
  extractStridedSlice S4x4096x1024 ![0, 0, 3072] (A_main_v0 (F := Ideal) a0 : FVec Ideal S4x4096x17408 .f32) slices_S4x4096x17408_S4x4096x1024_0_0_3072

/-- The normalised rows with the gain and the gate. -/
def gated (x : FVec Ideal S4x4x4096x256 .f32) (a0 : FVec Ideal S16384x17408 .f32) (a1 : FVec Ideal S1024 .f32) :
    FVec Ideal S16384x1024 .bf16 :=
  shapeCast S16384x1024
    (truncf .bf16
      (mulf
        (mulf
          (shapeCast S4x4096x1024 (transpose S4x4096x4x256 [0, 2, 1, 3] (normed x) transposes_S4x4x4096x256_S4x4096x4x256_0_2_1_3)
            shapeCasts_S4x4096x4x256_S4x4096x1024)
          (broadcastInDim S4x4096x1024 ![0, 1, 2] bcast_S1x1x1024_S4x4096x1024_0_1_2 (broadcastInDim S1x1x1024 ![2] bcast_S1024_S1x1x1024_2 a1)))
        (mulf (gates a0)
          (Host.divf (broadcastInDim S4x4096x1024 ![] bcast_S_S4x4096x1024 (constant S_ .f32 0x3F800000#32))
            (addf (broadcastInDim S4x4096x1024 ![] bcast_S_S4x4096x1024 (constant S_ .f32 0x3F800000#32))
              (Host.exp (Host.negf (gates a0)))))))
      bitsLt_bf16_f32)
    shapeCasts_S4x4096x1024_S16384x1024

set_option maxHeartbeats 400000 in
/-- The printed term after the loop is the stages. -/
theorem stages (s : State Ideal) (a0 : FVec Ideal S16384x17408 .f32) (a1 : FVec Ideal S1024 .f32) :
    R_main_v239 s a0 a1 = gated (rows a0 s.main_v76_4) a0 a1 := by
  delta R_main_v239 gated rows retained normed centered mean gates scores qWeighted decays place qChunks rotate qHeads
  delta A_main_v54 A_main_v53 A_main_v52 A_main_v42 A_main_v41 A_main_v40 A_main_v39 A_main_v38 A_main_v37 A_main_v36 A_main_v35 A_main_v32 A_main_v29 A_main_v28 A_main_v25 A_main_v22 A_main_v21 A_main_v3 A_main_v2 A_main_v1 A_main_v0
  rfl

end Cert.Retention

end
-- ==== Proof.RetRefAt.lean ====
/- The reference's stages at an index: what each of them is there in terms of the projection's entries, the tables and the
   states the chunks find. -/
module

public import proofs.«01_k».proof.Proof.RetRef

@[expose] public section

set_option maxRecDepth 65536

noncomputable section

open Idealize.ShloMosaic Idealize.ShloMosaic.TcCoe Idealize.SL.Sem
open Idealize.ShloMosaic.Pipeline (Dat)

namespace Cert.Retention

open Cert.ReferenceIdeal Cert.ReferenceIdeal.Gen Cert.ReferenceIdeal.Step

/-- The table of cosines. -/
abbrev cosT : FVec Ideal S4096x128 .f32 := K_main_v19 (F := Ideal)

/-- The table of sines. -/
abbrev sinT : FVec Ideal S4096x128 .f32 := K_main_v20 (F := Ideal)

/-- The logarithms of the heads' decays. -/
abbrev lgT : FVec Ideal S4 .f32 := K_main_v50 (F := Ideal)

/-- The keys by chunks: rotated and scaled. -/
abbrev kChunks (a0 : FVec Ideal S16384x17408 .f32) : FVec Ideal S4x4x32x128x256 .f32 := A_main_v53 (F := Ideal) a0

/-- The keys weighted by the decay up to the chunk's end. -/
abbrev kWeighted (a0 : FVec Ideal S16384x17408 .f32) : FVec Ideal S4x4x32x128x256 .f32 := A_main_v66 (F := Ideal) a0

/-- The values by chunks. -/
abbrev vChunks (a0 : FVec Ideal S16384x17408 .f32) : FVec Ideal S4x4x32x128x256 .f32 := A_main_v54 (F := Ideal) a0

/-- What each chunk adds to the state. -/
abbrev kv (a0 : FVec Ideal S16384x17408 .f32) : FVec Ideal S32x4x4x256x256 .f32 := A_main_v67 (F := Ideal) a0

section Readings

variable (a0 : FVec Ideal S16384x17408 .f32) (b h : Fin 4) (n : Fin 32) (i j : Fin 128) (d e : Fin 256) (p : Fin 4096)

theorem addf_five (x y : FVec Ideal S4x4x32x128x256 .f32) :
    addf x y (ix5 b h n i e) = x (ix5 b h n i e) + y (ix5 b h n i e) := by
  pointwise

theorem mulf_five (x y : FVec Ideal S4x4x32x128x256 .f32) :
    mulf x y (ix5 b h n i e) = x (ix5 b h n i e) * y (ix5 b h n i e) := by
  pointwise

theorem mulf_square (x y : FVec Ideal S4x4x32x128x128 .f32) :
    mulf x y (ix5 b h n i j) = x (ix5 b h n i j) * y (ix5 b h n i j) := by
  pointwise

theorem row_bcast (w : FVec Ideal S4x128 .f32) :
    broadcastInDim S4x4x32x128x256 ![0, 1, 2, 3, 4] bcast_S1x4x1x128x1_S4x4x32x128x256_0_1_2_3_4
      (broadcastInDim S1x4x1x128x1 ![1, 3] bcast_S4x128_S1x4x1x128x1_1_3 w) (ix5 b h n i d) = w (ix2 h i) := by
  pointwise

theorem square_bcast (w : FVec Ideal S4x128x128 .f32) :
    broadcastInDim S4x4x32x128x128 ![0, 1, 2, 3, 4] bcast_S1x4x1x128x128_S4x4x32x128x128_0_1_2_3_4
      (broadcastInDim S1x4x1x128x128 ![1, 3, 4] bcast_S4x128x128_S1x4x1x128x128_1_3_4 w) (ix5 b h n i j) = w (ix3 h i j) := by
  pointwise

theorem dot_rows (x y : FVec Ideal S4x4x32x128x256 .f32) :
    Host.dotGeneral (φ₁ := .f32) (φ₂ := .f32) dot_S4x4x32x128x256_S4x4x32x128x256_S4x4x32x128x128_4_4_3_3_012_012 none x y (ix5 b h n i j)
      = ∑ d, x (ix5 b h n i d) * y (ix5 b h n j d) := by
  pointwise

theorem dot_values (x : FVec Ideal S4x4x32x128x128 .f32) (v : FVec Ideal S4x4x32x128x256 .f32) :
    Host.dotGeneral (φ₁ := .f32) (φ₂ := .f32) dot_S4x4x32x128x128_S4x4x32x128x256_S4x4x32x128x256_4_3_3_4_012_012 none x v (ix5 b h n i e)
      = ∑ j, x (ix5 b h n i j) * v (ix5 b h n j e) := by
  pointwise

theorem dot_state (x : FVec Ideal S4x4x32x128x256 .f32) (T : FVec Ideal S32x4x4x256x256 .f32) :
    Host.dotGeneral (φ₁ := .f32) (φ₂ := .f32) dot_S4x4x32x128x256_S32x4x4x256x256_S4x4x32x128x256_4_3_3_4_012_120 none x T (ix5 b h n i e)
      = ∑ d, x (ix5 b h n i d) * T (ix5 n b h d e) := by
  pointwise

theorem dot_keys (x y : FVec Ideal S4x4x32x128x256 .f32) :
    Host.dotGeneral (φ₁ := .f32) (φ₂ := .f32) dot_S4x4x32x128x256_S4x4x32x128x256_S32x4x4x256x256_3_3_4_4_201_201 none x y (ix5 n b h d e)
      = ∑ i, x (ix5 b h n i d) * y (ix5 b h n i e) := by
  pointwise

theorem chunked (x : FVec Ideal S4x4x4096x256 .f32) :
    shapeCast S4x4x32x128x256 x shapeCasts_S4x4x4096x256_S4x4x32x128x256 (ix5 b h n i d)
      = x (ix4 b h ⟨n.val * 128 + i.val, by omega⟩ d) := by
  pointwise

theorem qHeads_at : qHeads a0 (ix4 b h p d) = a0 (ix2 ⟨b.val * 4096 + p.val, by omega⟩ ⟨h.val * 256 + d.val, by omega⟩) := by
  pointwise [qHeads, A_main_v0]

theorem kHeads_at : (A_main_v3 (F := Ideal) a0 : FVec Ideal S4x4x4096x256 .f32) (ix4 b h p d)
    = a0 (ix2 ⟨b.val * 4096 + p.val, by omega⟩ ⟨1024 + (h.val * 256 + d.val), by omega⟩) := by
  pointwise [A_main_v3, A_main_v2, A_main_v1, A_main_v0]

theorem vHeads_at : (A_main_v42 (F := Ideal) a0 : FVec Ideal S4x4x4096x256 .f32) (ix4 b h p d)
    = a0 (ix2 ⟨b.val * 4096 + p.val, by omega⟩ ⟨2048 + (h.val * 256 + d.val), by omega⟩) := by
  pointwise [A_main_v42, A_main_v41, A_main_v40, A_main_v39, A_main_v0]

/-- The first half of a rotated head. -/
theorem rotate_lo (x : FVec Ideal S4x4x4096x256 .f32) :
    rotate x (ix4 b h p ⟨j.val, by omega⟩)
      = x (ix4 b h p ⟨j.val, by omega⟩) * cosT (ix2 p j) - x (ix4 b h p ⟨128 + j.val, by omega⟩) * sinT (ix2 p j) := by
  pointwise [rotate, K_main_v24, K_main_v23, K_main_v27, K_main_v26, K_main_v31, K_main_v30, K_main_v34, K_main_v33]

/-- The second half of a rotated head. -/
theorem rotate_hi (x : FVec Ideal S4x4x4096x256 .f32) :
    rotate x (ix4 b h p ⟨128 + j.val, by omega⟩)
      = x (ix4 b h p ⟨128 + j.val, by omega⟩) * cosT (ix2 p j) + x (ix4 b h p ⟨j.val, by omega⟩) * sinT (ix2 p j) := by
  pointwise [rotate, K_main_v24, K_main_v23, K_main_v27, K_main_v26, K_main_v31, K_main_v30, K_main_v34, K_main_v33]

theorem kRotated : (A_main_v38 (F := Ideal) a0 : FVec Ideal S4x4x4096x256 .f32) = rotate (A_main_v3 (F := Ideal) a0) := by
  delta A_main_v38 A_main_v37 A_main_v36 A_main_v35 A_main_v32 A_main_v29 A_main_v28 A_main_v25 A_main_v22 A_main_v21 rotate
  rfl

theorem scaled (x : FVec Ideal S4x4x4096x256 .f32) :
    mulf x (K_main_v51 (F := Ideal) : FVec Ideal S4x4x4096x256 .f32) (ix4 b h p d)
      = x (ix4 b h p d) * Ideal.ofBits .f32 0x3D800000#32 := by
  pointwise [K_main_v51, K_main_cst_4]

theorem qChunks_at : qChunks a0 (ix5 b h n i d) = rotate (qHeads a0) (ix4 b h ⟨n.val * 128 + i.val, by omega⟩ d) :=
  chunked b h n i d _

theorem kChunks_at : kChunks a0 (ix5 b h n i d)
    = rotate (A_main_v3 (F := Ideal) a0) (ix4 b h ⟨n.val * 128 + i.val, by omega⟩ d) * Ideal.ofBits .f32 0x3D800000#32 := by
  rw [← kRotated]
  delta kChunks A_main_v53
  rw [chunked]
  exact scaled b h d _ _

theorem vChunks_at : vChunks a0 (ix5 b h n i e)
    = a0 (ix2 ⟨b.val * 4096 + (n.val * 128 + i.val), by omega⟩ ⟨2048 + (h.val * 256 + e.val), by omega⟩) := by
  delta vChunks A_main_v54
  rw [chunked, vHeads_at]

theorem kDecay_at : (K_main_v63 (F := Ideal) : FVec Ideal S4x128 .f32) (ix2 h i)
    = Ideal.exp (lgT (ix1 h) * (Ideal.ofBits .f32 0x42FE0000#32 - (FloatOps.sitofp (F := Ideal) .f32 (BitVec.ofNat 32 i.val) : Ideal .f32))) := by
  pointwise [K_main_v63, K_main_v62, K_main_v61, K_main_v60, K_main_v59, K_main_v58, K_main_v57, K_main_v56, K_main_v55, K_main_cst_5]

theorem kWeighted_at : kWeighted a0 (ix5 b h n i d)
    = kChunks a0 (ix5 b h n i d) * Ideal.exp (lgT (ix1 h) * (Ideal.ofBits .f32 0x42FE0000#32 - (FloatOps.sitofp (F := Ideal) .f32 (BitVec.ofNat 32 i.val) : Ideal .f32))) := by
  rw [← kDecay_at]
  delta kWeighted A_main_v66 K_main_v65 K_main_v64
  rw [mulf_five, row_bcast]

theorem kv_at : kv a0 (ix5 n b h d e) = ∑ i, kWeighted a0 (ix5 b h n i d) * vChunks a0 (ix5 b h n i e) := by
  delta kv A_main_v67
  exact dot_keys b h n d e _ _

theorem qWeighted_at : qWeighted a0 (ix5 b h n i d)
    = qChunks a0 (ix5 b h n i d) * Ideal.exp (lgT (ix1 h) * ((FloatOps.sitofp (F := Ideal) .f32 (BitVec.ofNat 32 i.val) : Ideal .f32) + Ideal.ofBits .f32 0x3F800000#32)) := by
  delta qWeighted
  rw [mulf_five, row_bcast]
  refine congrArg _ ?_
  pointwise [place]

theorem decays_at : decays (ix3 h i j)
    = Scalar.select (IntOp.cmpi .sge (BitVec.ofNat 32 i.val) (BitVec.ofNat 32 j.val))
        (Ideal.exp (lgT (ix1 h) * max ((FloatOps.sitofp (F := Ideal) .f32 (BitVec.ofNat 32 i.val) : Ideal .f32) - (FloatOps.sitofp (F := Ideal) .f32 (BitVec.ofNat 32 j.val) : Ideal .f32)) 0))
        (0 : EReal) := by
  pointwise [decays, place]

theorem scores_at : scores a0 (ix5 b h n i j)
    = (∑ d, qChunks a0 (ix5 b h n i d) * kChunks a0 (ix5 b h n j d)) * decays (ix3 h i j) := by
  delta scores
  rw [mulf_square, square_bcast, dot_rows]

theorem retained_at (T : FVec Ideal S32x4x4x256x256 .f32) : retained a0 T (ix5 b h n i e)
    = (∑ j, scores a0 (ix5 b h n i j) * vChunks a0 (ix5 b h n j e)) + ∑ d, qWeighted a0 (ix5 b h n i d) * T (ix5 n b h d e) := by
  delta retained
  rw [addf_five, dot_values, dot_state]

theorem rows_at (T : FVec Ideal S32x4x4x256x256 .f32) :
    rows a0 T (ix4 b h ⟨n.val * 128 + i.val, by omega⟩ e) = retained a0 T (ix5 b h n i e) := by
  have key : ∀ x : FVec Ideal S4x4x32x128x256 .f32,
      shapeCast S4x4x4096x256 x shapeCasts_S4x4x32x128x256_S4x4x4096x256 (ix4 b h ⟨n.val * 128 + i.val, by omega⟩ e) = x (ix5 b h n i e) := by
    intro x
    have e1 : (n.val * 128 + i.val) / 128 = n.val := by omega
    have e2 : (n.val * 128 + i.val) % 128 = i.val := by omega
    pointwise
  exact key _

/-- A rotated head at any column. -/
theorem rotate_at (x : FVec Ideal S4x4x4096x256 .f32) :
    rotate x (ix4 b h p d)
      = if hd : d.val < 128 then
          x (ix4 b h p ⟨d.val, by omega⟩) * cosT (ix2 p ⟨d.val, hd⟩) - x (ix4 b h p ⟨128 + d.val, by omega⟩) * sinT (ix2 p ⟨d.val, hd⟩)
        else
          x (ix4 b h p ⟨128 + (d.val - 128), by omega⟩) * cosT (ix2 p ⟨d.val - 128, by omega⟩)
            + x (ix4 b h p ⟨d.val - 128, by omega⟩) * sinT (ix2 p ⟨d.val - 128, by omega⟩) := by
  split
  · next hd => exact rotate_lo b h ⟨d.val, hd⟩ p x
  · next hd =>
    have e : d = ⟨128 + (d.val - 128), by omega⟩ := Fin.ext (by show d.val = 128 + (d.val - 128); omega)
    conv_lhs => rw [e]
    exact rotate_hi b h ⟨d.val - 128, by omega⟩ p x

/-- The result at the row of chunk `n`'s place `i` in batch `b` and the column `e` of head `h`. -/
theorem gated_at (x : FVec Ideal S4x4x4096x256 .f32) (a1 : FVec Ideal S1024 .f32) :
    gated x a0 a1 (ix2 ⟨b.val * 4096 + p.val, by omega⟩ ⟨h.val * 256 + e.val, by omega⟩)
      = (x (ix4 b h p e) - Ideal.div (∑ y, x (ix4 b h p y)) (Ideal.ofBits .f32 0x43800000#32))
          * Ideal.rsqrt (Ideal.div
              (∑ y, (x (ix4 b h p y) - Ideal.div (∑ y, x (ix4 b h p y)) (Ideal.ofBits .f32 0x43800000#32))
                * (x (ix4 b h p y) - Ideal.div (∑ y, x (ix4 b h p y)) (Ideal.ofBits .f32 0x43800000#32)))
              (Ideal.ofBits .f32 0x43800000#32) + Ideal.ofBits .f32 0x358637BD#32)
          * a1 (ix1 ⟨h.val * 256 + e.val, by omega⟩)
          * (a0 (ix2 ⟨b.val * 4096 + p.val, by omega⟩ ⟨3072 + (h.val * 256 + e.val), by omega⟩)
              * Ideal.logistic (a0 (ix2 ⟨b.val * 4096 + p.val, by omega⟩ ⟨3072 + (h.val * 256 + e.val), by omega⟩))) := by
  have e1 : (b.val * 4096 + p.val) / 4096 = b.val := by omega
  have e2 : (b.val * 4096 + p.val) % 4096 = p.val := by omega
  have e3 : (h.val * 256 + e.val) / 256 = h.val := by omega
  have e4 : (h.val * 256 + e.val) % 256 = e.val := by omega
  pointwise [gated, gates, normed, centered, mean, A_main_v0]
  simp only [e1, e2, e3, e4, Ideal.logistic]

end Readings

end Cert.Retention

end
-- ==== Proof.RetMask.lean ====
/- Counts of places: the kernel subtracts two places as integers and asks whether the difference is at least zero, the
   reference subtracts them as numbers and asks which integer is the greater. -/
module

public import proofs.«01_k».proof.Proof.RetRefAt
public import Idealize.ShloMosaic.Lib.WordCmp
public import Idealize.ShloMosaic.Lib.DynamicIndex

@[expose] public section

noncomputable section

open Idealize.ShloMosaic Idealize.ShloMosaic.TcCoe Idealize.SL.Sem

namespace Cert.Retention

/-- A place as a number. -/
abbrev num (i : ℕ) : Ideal .f32 := FloatOps.sitofp (F := Ideal) .f32 (BitVec.ofNat 32 i)

theorem num_eq (i : Fin 128) : num i.val = ((i.val : ℝ) : EReal) := by
  show (((BitVec.ofNat 32 i.val).toInt : ℝ) : EReal) = _
  rw [toInt_ofNat_of_lt (by omega)]
  simp

theorem toInt_sub (i j : Fin 128) : (IntOp.subi (BitVec.ofNat 32 i.val) (BitVec.ofNat 32 j.val)).toInt = (i.val : ℤ) - j.val := by
  show (BitVec.ofNat 32 i.val - BitVec.ofNat 32 j.val).toInt = _
  rw [BitVec.toInt_sub, toInt_ofNat_of_lt (by omega), toInt_ofNat_of_lt (by omega)]
  have := i.isLt
  have := j.isLt
  rw [Int.bmod_def]
  split <;> omega

theorem num_sub (i j : Fin 128) :
    (FloatOps.sitofp (F := Ideal) .f32 (IntOp.subi (BitVec.ofNat 32 i.val) (BitVec.ofNat 32 j.val)) : Ideal .f32)
      = num i.val - num j.val := by
  rw [num_eq, num_eq]
  show (((IntOp.subi (BitVec.ofNat 32 i.val) (BitVec.ofNat 32 j.val)).toInt : ℝ) : EReal) = _
  rw [toInt_sub, ← EReal.coe_sub]
  push_cast
  rfl

theorem num_sub_nonneg (i j : Fin 128) : (0 : EReal) ≤ num i.val - num j.val ↔ j.val ≤ i.val := by
  rw [num_eq, num_eq, ← EReal.coe_sub]
  rw [show (0 : EReal) = ((0 : ℝ) : EReal) from rfl, EReal.coe_le_coe_iff, sub_nonneg, Nat.cast_le]

theorem select_sge (i j : Fin 128) (x y : EReal) :
    Scalar.select (IntOp.cmpi .sge (BitVec.ofNat 32 i.val) (BitVec.ofNat 32 j.val)) x y = if j.val ≤ i.val then x else y := by
  rw [WordCmp.cmpi_sge_ofNat (by omega) (by omega), WordCmp.select_ofBool]
  simp only [decide_eq_true_eq]

end Cert.Retention

end
-- ==== Proof.RetChunk.lean ====
/- One chunk of the retention kernel: 128 rows of one head. The kernel's body writes the same two computations sixteen times
   (four heads, four chunks of a row block), each on its own rows and columns; here they are named once, over the values a
   chunk loads, and the body's sixteen state stores and sixteen row stores are those two functions at sixteen places. -/
module

public import proofs.«01_k».proof.Proof.Gen.KernelIdeal.Value
public import Idealize.ShloMosaic.Lib.Pipeline.ValueKit
public import Idealize.ShloMosaic.Lib.Pipeline.ReadBack

@[expose] public section

set_option maxRecDepth 65536

noncomputable section

open Idealize.ShloMosaic Idealize.ShloMosaic.TcCoe Idealize.SL.Sem
open Idealize.ShloMosaic.Pipeline (Dat)

namespace Cert.Retention

open Cert.KernelIdeal Cert.KernelIdeal.Gen

variable (m : (ℓ : Loc nD τ sig) → Buf (Elt Ideal) ℓ)

/-- The state after a chunk: `exp(128·lg)` of the state before it plus the chunk's weighted product of keys and values. -/
def stChunk (lg : Elt Ideal .f32) (cos sin : FVec Ideal S128x128 .f32) (k v : FVec Ideal S128x256 .f32)
    (s : FVec Ideal S1x256x256 .f32) : FVec Ideal S1x256x256 .f32 :=
  k0_pay17 (k0_pay7 lg) (k0_pay8 lg) (k0_pay9 cos) (k0_pay10 sin) k v s

/-- The rows of a chunk before the normalisation: the masked product inside the chunk plus the state's product. -/
def rawChunk (lg : Elt Ideal .f32) (cos sin : FVec Ideal S128x128 .f32) (q k v : FVec Ideal S128x256 .f32)
    (s : FVec Ideal S1x256x256 .f32) : FVec Ideal S128x256 .f32 :=
  k0_pay18 (k0_pay5 lg) (k0_pay6 lg) (k0_pay9 cos) (k0_pay10 sin) (k0_pay11 q) (k0_pay12 q) (k0_pay13 cos sin q) k v s

/-- The rows a chunk stores: each normalised, scaled by the head's gain and gated. -/
def outChunk (lg : Elt Ideal .f32) (cos sin : FVec Ideal S128x128 .f32) (q k v : FVec Ideal S128x256 .f32)
    (s : FVec Ideal S1x256x256 .f32) (nrm : FVec Ideal S1x256 .f32) (g : FVec Ideal S128x256 .f32) :
    FVec Ideal S128x256 .bf16 :=
  k0_pay20 (rawChunk lg cos sin q k v s)
    (k0_pay19 (k0_pay5 lg) (k0_pay6 lg) (k0_pay9 cos) (k0_pay10 sin) (k0_pay11 q) (k0_pay12 q) (k0_pay13 cos sin q) k v s)
    nrm g

/-- The 128 × 256 part of a row block that starts at row `a` and column `b`. -/
def part (X : FVec Ideal S512x1024 .f32) (a b : ℕ) : FVec Ideal S128x256 .f32 := fun i =>
  X (ix2 ⟨(a + (i 0).val) % 512, Nat.mod_lt _ (by decide)⟩ ⟨(b + (i 1).val) % 1024, Nat.mod_lt _ (by decide)⟩)

/-- The 128 rows of a table's block that start at row `a`. -/
def tab (X : FVec Ideal S512x128 .f32) (a : ℕ) : FVec Ideal S128x128 .f32 := fun i =>
  X (ix2 ⟨(a + (i 0).val) % 512, Nat.mod_lt _ (by decide)⟩ ⟨(i 1).val % 128, Nat.mod_lt _ (by decide)⟩)

/-- The 256 entries of the gain that start at column `b`. -/
def gain (X : FVec Ideal S1x1024 .f32) (b : ℕ) : FVec Ideal S1x256 .f32 := fun i =>
  X (ix2 ⟨0, by decide⟩ ⟨(b + (i 1).val) % 1024, Nat.mod_lt _ (by decide)⟩)

/-- The state of head `h`. -/
def head (X : FVec Ideal S4x256x256 .f32) (h : ℕ) : FVec Ideal S1x256x256 .f32 := fun i =>
  X (ix3 ⟨h % 4, Nat.mod_lt _ (by decide)⟩ ⟨(i 1).val % 256, Nat.mod_lt _ (by decide)⟩ ⟨(i 2).val % 256, Nat.mod_lt _ (by decide)⟩)

/-- The logarithm of the decay of head `h`. -/
def lgOf (X : FVec Ideal S4 .f32) (h : ℕ) : Elt Ideal .f32 := X (ix1 ⟨h % 4, Nat.mod_lt _ (by decide)⟩)

theorem ld_part (X : FVec Ideal S512x1024 .f32) (a b : ℕ) (inb) :
    View.ld (Val := Elt Ideal) (e' := .f32) X (Rect.unit (s := S512x1024) ![a, b] ![128, 256] inb) = part X a b := by
  funext i
  refine congrArg X ?_
  funext x
  have hi0 : (i 0).val < 128 := (i 0).isLt
  have hi1 : (i 1).val < 256 := (i 1).isLt
  fin_cases x
  · refine Fin.ext ?_
    show a + 1 * (i 0).val = (a + (i 0).val) % 512
    have : a + 128 ≤ 512 := inb 0
    omega
  · refine Fin.ext ?_
    show b + 1 * (i 1).val = (b + (i 1).val) % 1024
    have : b + 256 ≤ 1024 := inb 1
    omega

theorem ld_tab (X : FVec Ideal S512x128 .f32) (a : ℕ) (inb) :
    View.ld (Val := Elt Ideal) (e' := .f32) X (Rect.unit (s := S512x128) ![a, 0] ![128, 128] inb) = tab X a := by
  funext i
  refine congrArg X ?_
  funext x
  have hi0 : (i 0).val < 128 := (i 0).isLt
  have hi1 : (i 1).val < 128 := (i 1).isLt
  fin_cases x
  · refine Fin.ext ?_
    show a + 1 * (i 0).val = (a + (i 0).val) % 512
    have : a + 128 ≤ 512 := inb 0
    omega
  · refine Fin.ext ?_
    show 0 + 1 * (i 1).val = (i 1).val % 128
    omega

theorem ld_gain (X : FVec Ideal S1x1024 .f32) (b : ℕ) (inb) :
    View.ld (Val := Elt Ideal) (e' := .f32) X (Rect.unit (s := S1x1024) ![0, b] ![1, 256] inb) = gain X b := by
  funext i
  refine congrArg X ?_
  funext x
  have hi0 : (i 0).val < 1 := (i 0).isLt
  have hi1 : (i 1).val < 256 := (i 1).isLt
  fin_cases x
  · refine Fin.ext ?_
    show 0 + 1 * (i 0).val = 0
    omega
  · refine Fin.ext ?_
    show b + 1 * (i 1).val = (b + (i 1).val) % 1024
    have : b + 256 ≤ 1024 := inb 1
    omega

theorem ld_head (X : FVec Ideal S4x256x256 .f32) (h : ℕ) (inb) :
    View.ld (Val := Elt Ideal) (e' := .f32) X (Rect.unit (s := S4x256x256) ![h, 0, 0] ![1, 256, 256] inb) = head X h := by
  funext i
  refine congrArg X ?_
  funext x
  have hi0 : (i 0).val < 1 := (i 0).isLt
  have hi1 : (i 1).val < 256 := (i 1).isLt
  have hi2 : (i 2).val < 256 := (i 2).isLt
  fin_cases x
  · refine Fin.ext ?_
    show h + 1 * (i 0).val = h % 4
    have : h + 1 ≤ 4 := inb 0
    omega
  · refine Fin.ext ?_
    show 0 + 1 * (i 1).val = (i 1).val % 256
    omega
  · refine Fin.ext ?_
    show 0 + 1 * (i 2).val = (i 2).val % 256
    omega

theorem ld_lg (X : FVec Ideal S4 .f32) (h : ℕ) (inb) (i : S1.Idx) :
    View.ld (Val := Elt Ideal) (e' := .f32) X (Rect.unit (s := S4) ![h] ![1] inb) i = lgOf X h := by
  refine congrArg X ?_
  funext x
  have hi0 : (i 0).val < 1 := (i 0).isLt
  fin_cases x
  refine Fin.ext ?_
  show h + 1 * (i 0).val = h % 4
  have : h + 1 ≤ 4 := inb 0
  omega

/-- The newest of a list of stores into one head of the scratch each: at an index of its head it is read, elsewhere the older ones are. -/
theorem canon_lead (h : ℕ) (inb) (w : FVec Ideal S1x256x256 .f32) (L : List (View.Piece (Elt Ideal) S4x256x256 .f32)) (y : S4x256x256.Idx) :
    View.canon ((⟨Rect.unit (s := S4x256x256) ![h, 0, 0] ![1, 256, 256] inb, w⟩ : View.Piece (Elt Ideal) S4x256x256 .f32) :: L) y
      = if (y 0).val = h then w (ix3 0 (y 1) (y 2)) else View.canon L y := by
  split
  · next e =>
    have : y = (Rect.unit (s := S4x256x256) ![h, 0, 0] ![1, 256, 256] inb).emb (ix3 (n0 := 1) (n1 := 256) (n2 := 256) 0 (y 1) (y 2)) := by
      funext x
      fin_cases x
      · refine Fin.ext ?_
        show (y 0).val = h + 1 * 0
        omega
      · refine Fin.ext ?_
        show (y 1).val = 0 + 1 * (y 1).val
        omega
      · refine Fin.ext ?_
        show (y 2).val = 0 + 1 * (y 2).val
        omega
    conv_lhs => rw [this]
    exact View.canon_cons_emb (Rect.unit (s := S4x256x256) ![h, 0, 0] ![1, 256, 256] inb) w L _
  · next e =>
    refine View.canon_cons_of_not_mem _ L fun hm => e ?_
    obtain ⟨x, rfl⟩ := (Rect.unit (s := S4x256x256) ![h, 0, 0] ![1, 256, 256] inb).exists_idx_of_mem hm
    show h + 1 * (x 0).val = h
    have : (x 0).val < 1 := (x 0).isLt
    omega

section Block

variable (lg : FVec Ideal S4 .f32) (Q K V G : FVec Ideal S512x1024 .f32) (C S : FVec Ideal S512x128 .f32)
  (N : FVec Ideal S1x1024 .f32) (X : FVec Ideal S4x256x256 .f32)

/-- The state of head `h` after `c` chunks of a row block, from the states `X` found. -/
def st (h : ℕ) : ℕ → FVec Ideal S1x256x256 .f32
  | 0 => head X h
  | c + 1 => stChunk (lgOf lg h) (tab C (128 * c)) (tab S (128 * c)) (part K (128 * c) (256 * h)) (part V (128 * c) (256 * h)) (st h c)

/-- The states a row block leaves. -/
def sts : FVec Ideal S4x256x256 .f32 := fun y => st lg K V C S X (y 0).val 4 (ix3 0 (y 1) (y 2))

/-- The rows chunk `c` of head `h` stores. -/
def rowsOf (h c : ℕ) : FVec Ideal S128x256 .bf16 :=
  outChunk (lgOf lg h) (tab C (128 * c)) (tab S (128 * c)) (part Q (128 * c) (256 * h)) (part K (128 * c) (256 * h))
    (part V (128 * c) (256 * h)) (st lg K V C S X h c) (gain N (256 * h)) (part G (128 * c) (256 * h))

/-- The row block stored. -/
def blk : FVec Ideal S512x1024 .bf16 := fun y =>
  rowsOf lg Q K V G C S N X ((y 1).val / 256) ((y 0).val / 128)
    (ix2 ⟨(y 0).val % 128, Nat.mod_lt _ (by decide)⟩ ⟨(y 1).val % 256, Nat.mod_lt _ (by decide)⟩)

/-- Inside the tile of chunk `c` and head `h` the row block is what that chunk stores. -/
theorem blk_tile (h c : ℕ) (inb) (x : S128x256.Idx) :
    rowsOf lg Q K V G C S N X h c x
      = blk lg Q K V G C S N X ((Rect.unit (s := S512x1024) ![128 * c, 256 * h] ![128, 256] inb).emb x) := by
  have h0 : (x 0).val < 128 := (x 0).isLt
  have h1 : (x 1).val < 256 := (x 1).isLt
  have e0 : (((Rect.unit (s := S512x1024) ![128 * c, 256 * h] ![128, 256] inb).emb x) 0).val = 128 * c + 1 * (x 0).val := rfl
  have e1 : (((Rect.unit (s := S512x1024) ![128 * c, 256 * h] ![128, 256] inb).emb x) 1).val = 256 * h + 1 * (x 1).val := rfl
  unfold blk
  have a : (((Rect.unit (s := S512x1024) ![128 * c, 256 * h] ![128, 256] inb).emb x) 1).val / 256 = h := by rw [e1]; omega
  have b : (((Rect.unit (s := S512x1024) ![128 * c, 256 * h] ![128, 256] inb).emb x) 0).val / 128 = c := by rw [e0]; omega
  rw [a, b]
  refine congrArg _ ?_
  funext z
  fin_cases z
  · refine Fin.ext ?_
    show (x 0).val = (128 * c + 1 * (x 0).val) % 128
    omega
  · refine Fin.ext ?_
    show (x 1).val = (256 * h + 1 * (x 1).val) % 256
    omega

end Block

end Cert.Retention

end
-- ==== Proof.RetMatch.lean ====
/- One chunk of the kernel against the reference: when the values a chunk loads are the projection's entries, the tables'
   rows and the states that chunk finds in the reference, its state, its rows and what it stores are the reference's. -/
module

public import proofs.«01_k».proof.Proof.RetMask
public import proofs.«01_k».proof.Proof.RetChunk

@[expose] public section

set_option maxRecDepth 65536

noncomputable section

open Idealize.ShloMosaic Idealize.ShloMosaic.TcCoe Idealize.SL.Sem
open Idealize.ShloMosaic.Pipeline (Dat)

namespace Cert.Retention

open Cert.KernelIdeal Cert.KernelIdeal.Gen

section Forms

variable (lg : Elt Ideal .f32) (cos sin : FVec Ideal S128x128 .f32) (q k v : FVec Ideal S128x256 .f32)
  (s : FVec Ideal S1x256x256 .f32)

/-- A row rotated, at a column of the first half. -/
def rotLo (x : FVec Ideal S128x256 .f32) (i d : Fin 128) : EReal :=
  x (ix2 i ⟨d.val, by omega⟩) * cos (ix2 i d) - x (ix2 i ⟨128 + d.val, by omega⟩) * sin (ix2 i d)

/-- A row rotated, at a column of the second half. -/
def rotHi (x : FVec Ideal S128x256 .f32) (i d : Fin 128) : EReal :=
  x (ix2 i ⟨128 + d.val, by omega⟩) * cos (ix2 i d) + x (ix2 i ⟨d.val, by omega⟩) * sin (ix2 i d)

/-- The chunk's state, read. -/
theorem stChunk_at (d e : Fin 256) : stChunk lg cos sin k v s (ix3 0 d e)
    = Ideal.exp (lg * Ideal.ofBits .f32 0x43000000#32) * s (ix3 0 d e)
      + ∑ i : Fin 128, (if hd : d.val < 128 then rotLo cos sin k i ⟨d.val, hd⟩ else rotHi cos sin k i ⟨d.val - 128, by omega⟩)
          * Ideal.ofBits .f32 0x3D800000#32 * Ideal.exp (lg * (Ideal.ofBits .f32 0x42FE0000#32 - num i.val)) * v (ix2 i e) := by
  pointwise [stChunk, k0_pay17, k0_pay16, k0_pay15, k0_pay14, k0_pay7, k0_pay8, k0_pay9, k0_pay10, k0_pay3]
  simp only [rotLo, rotHi]

/-- The chunk's rows, read. -/
theorem rawChunk_at (i : Fin 128) (e : Fin 256) : rawChunk lg cos sin q k v s (ix2 i e)
    = (∑ j : Fin 128, (((∑ d : Fin 128, rotLo cos sin q i d * (rotLo cos sin k j d * Ideal.ofBits .f32 0x3D800000#32))
            + ∑ d : Fin 128, rotHi cos sin q i d * (rotHi cos sin k j d * Ideal.ofBits .f32 0x3D800000#32))
          * (if j.val ≤ i.val then Ideal.exp (lg * max (num i.val - num j.val) 0) else 0)) * v (ix2 j e))
      + ((∑ d : Fin 128, rotLo cos sin q i d * Ideal.exp (lg * (num i.val + 1)) * s (ix3 0 ⟨d.val, by omega⟩ e))
        + ∑ d : Fin 128, rotHi cos sin q i d * Ideal.exp (lg * (num i.val + 1)) * s (ix3 0 ⟨128 + d.val, by omega⟩ e)) := by
  pointwise [rawChunk, k0_pay18, k0_pay16, k0_pay15, k0_pay14, k0_pay5, k0_pay6, k0_pay9, k0_pay10, k0_pay11, k0_pay12, k0_pay13, k0_pay3, k0_pay4]
  simp only [rotLo, rotHi, num_sub, num_sub_nonneg]

/-- The row sums the normalisation starts from. -/
theorem sums_at (r : FVec Ideal S128x256 .f32) (i : Fin 128) :
    multiReduction .add [1] S128 r 0x00000000#32 reduces_S128x256_S128 (.inl rfl) rfl (ix1 i) = ∑ y : Fin 256, r (ix2 i y) := by
  pointwise

/-- What the chunk stores, read. -/
theorem stored_at (r : FVec Ideal S128x256 .f32) (w : FVec Ideal S128 .f32) (nrm : FVec Ideal S1x256 .f32) (g : FVec Ideal S128x256 .f32)
    (i : Fin 128) (e : Fin 256) : k0_pay20 r w nrm g (ix2 i e)
      = (r (ix2 i e) - Ideal.div (w (ix1 i)) (Ideal.ofBits .f32 0x43800000#32))
          * Ideal.rsqrt (Ideal.div
              (∑ y, (r (ix2 i y) - Ideal.div (w (ix1 i)) (Ideal.ofBits .f32 0x43800000#32))
                * (r (ix2 i y) - Ideal.div (w (ix1 i)) (Ideal.ofBits .f32 0x43800000#32)))
              (Ideal.ofBits .f32 0x43800000#32) + Ideal.ofBits .f32 0x358637BD#32)
          * nrm (ix2 0 e) * (g (ix2 i e) * Ideal.logistic (g (ix2 i e))) := by
  pointwise [k0_pay20]

end Forms

/-- The values a chunk loads are those of chunk `n` of batch `b` and head `h`, and the state is the one `T` has there. -/
structure Loads (a0 : FVec Ideal S16384x17408 .f32) (T : FVec Ideal Cert.ReferenceIdeal.S32x4x4x256x256 .f32) (b h : Fin 4) (n : Fin 32)
    (lg : Elt Ideal .f32) (cos sin : FVec Ideal S128x128 .f32) (q k v : FVec Ideal S128x256 .f32) (s : FVec Ideal S1x256x256 .f32) : Prop where
  lg : lg = lgT (ix1 h)
  cos : ∀ i j : Fin 128, cos (ix2 i j) = cosT (ix2 ⟨n.val * 128 + i.val, by omega⟩ j)
  sin : ∀ i j : Fin 128, sin (ix2 i j) = sinT (ix2 ⟨n.val * 128 + i.val, by omega⟩ j)
  q : ∀ (i : Fin 128) (d : Fin 256), q (ix2 i d)
    = a0 (ix2 ⟨b.val * 4096 + (n.val * 128 + i.val), by omega⟩ ⟨h.val * 256 + d.val, by omega⟩)
  k : ∀ (i : Fin 128) (d : Fin 256), k (ix2 i d)
    = a0 (ix2 ⟨b.val * 4096 + (n.val * 128 + i.val), by omega⟩ ⟨1024 + (h.val * 256 + d.val), by omega⟩)
  v : ∀ (i : Fin 128) (d : Fin 256), v (ix2 i d)
    = a0 (ix2 ⟨b.val * 4096 + (n.val * 128 + i.val), by omega⟩ ⟨2048 + (h.val * 256 + d.val), by omega⟩)
  s : ∀ d e : Fin 256, s (ix3 0 d e) = T (ix5 n b h d e)

section Match

variable {a0 : FVec Ideal S16384x17408 .f32} {T : FVec Ideal Cert.ReferenceIdeal.S32x4x4x256x256 .f32} {b h : Fin 4} {n : Fin 32}
  {lg : Elt Ideal .f32} {cos sin : FVec Ideal S128x128 .f32} {q k v : FVec Ideal S128x256 .f32} {s : FVec Ideal S1x256x256 .f32}
  (L : Loads a0 T b h n lg cos sin q k v s)

include L

theorem q_lo (i d : Fin 128) : rotLo cos sin q i d = qChunks a0 (ix5 b h n i ⟨d.val, by omega⟩) := by
  rw [qChunks_at, rotate_lo, qHeads_at, qHeads_at, rotLo, L.q, L.q, L.cos, L.sin]

theorem q_hi (i d : Fin 128) : rotHi cos sin q i d = qChunks a0 (ix5 b h n i ⟨128 + d.val, by omega⟩) := by
  rw [qChunks_at, rotate_hi, qHeads_at, qHeads_at, rotHi, L.q, L.q, L.cos, L.sin]

theorem k_lo (i d : Fin 128) :
    rotLo cos sin k i d * Ideal.ofBits .f32 0x3D800000#32 = kChunks a0 (ix5 b h n i ⟨d.val, by omega⟩) := by
  rw [kChunks_at, rotate_lo, kHeads_at, kHeads_at, rotLo, L.k, L.k, L.cos, L.sin]

theorem k_hi (i d : Fin 128) :
    rotHi cos sin k i d * Ideal.ofBits .f32 0x3D800000#32 = kChunks a0 (ix5 b h n i ⟨128 + d.val, by omega⟩) := by
  rw [kChunks_at, rotate_hi, kHeads_at, kHeads_at, rotHi, L.k, L.k, L.cos, L.sin]

/-- The state after the chunk. -/
theorem stChunk_eq (d e : Fin 256) : stChunk lg cos sin k v s (ix3 0 d e)
    = Ideal.exp (lgT (ix1 h) * Ideal.ofBits .f32 0x43000000#32) * T (ix5 n b h d e) + kv a0 (ix5 n b h d e) := by
  rw [stChunk_at, kv_at, L.s, L.lg]
  refine congrArg _ (Finset.sum_congr rfl fun i _ => ?_)
  rw [kWeighted_at, vChunks_at, ← L.v]
  refine congrArg (· * _) (congrArg (· * _) ?_)
  split
  · next hd => exact k_lo L i ⟨d.val, hd⟩
  · next hd =>
    refine (k_hi L i ⟨d.val - 128, by omega⟩).trans (congrArg (fun y => kChunks a0 (ix5 b h n i y)) (Fin.ext ?_))
    show 128 + (d.val - 128) = d.val
    omega

/-- The chunk's rows. -/
theorem rawChunk_eq (i : Fin 128) (e : Fin 256) : rawChunk lg cos sin q k v s (ix2 i e) = retained a0 T (ix5 b h n i e) := by
  rw [rawChunk_at, retained_at, Fin.sum_univ_two_halves 128 128 rfl (fun d => qWeighted a0 (ix5 b h n i d) * T (ix5 n b h d e)), L.lg]
  simp only [q_lo L, q_hi L, k_lo L, k_hi L, L.s]
  refine congrArg₂ (· + ·) ?_ (congrArg₂ (· + ·) ?_ ?_)
  · refine Finset.sum_congr rfl fun j _ => ?_
    rw [scores_at, decays_at, select_sge, vChunks_at, ← L.v,
      Fin.sum_univ_two_halves 128 128 rfl (fun d => qChunks a0 (ix5 b h n i d) * kChunks a0 (ix5 b h n j d))]
  · refine Finset.sum_congr rfl fun d _ => ?_
    rw [qWeighted_at, Ideal.ofBits_one_f32]
  · refine Finset.sum_congr rfl fun d _ => ?_
    rw [qWeighted_at, Ideal.ofBits_one_f32]

/-- What the chunk stores. -/
theorem outChunk_eq (nrm : FVec Ideal S1x256 .f32) (g : FVec Ideal S128x256 .f32) (a1 : FVec Ideal S1024 .f32)
    (hn : ∀ e : Fin 256, nrm (ix2 0 e) = a1 (ix1 ⟨h.val * 256 + e.val, by omega⟩))
    (hg : ∀ (i : Fin 128) (e : Fin 256), g (ix2 i e)
      = a0 (ix2 ⟨b.val * 4096 + (n.val * 128 + i.val), by omega⟩ ⟨3072 + (h.val * 256 + e.val), by omega⟩))
    (i : Fin 128) (e : Fin 256) :
    outChunk lg cos sin q k v s nrm g (ix2 i e)
      = gated (rows a0 T) a0 a1 (ix2 ⟨b.val * 4096 + (n.val * 128 + i.val), by omega⟩ ⟨h.val * 256 + e.val, by omega⟩) := by
  have hw : ∀ i : Fin 128, k0_pay19 (k0_pay5 lg) (k0_pay6 lg) (k0_pay9 cos) (k0_pay10 sin) (k0_pay11 q) (k0_pay12 q) (k0_pay13 cos sin q) k v s (ix1 i)
      = ∑ y : Fin 256, rawChunk lg cos sin q k v s (ix2 i y) := fun i => sums_at _ i
  rw [gated_at a0 b h e ⟨n.val * 128 + i.val, by omega⟩]
  unfold outChunk
  rw [stored_at, hw, hn, hg]
  simp only [rawChunk_eq L, rows_at]

end Match

end Cert.Retention

end
-- ==== Proof.RetLoop.lean ====
/- The reference's states: what a trip adds, and that the stack after the loop holds the state each chunk finds. -/
module

public import proofs.«01_k».proof.Proof.RetRefAt
public import Idealize.ShloMosaic.Lib.WordCmp
public import Idealize.ShloMosaic.Lib.DynamicIndex

@[expose] public section

set_option maxRecDepth 65536

noncomputable section

open Idealize.ShloMosaic Idealize.ShloMosaic.TcCoe Idealize.SL.Sem
open Idealize.ShloMosaic.Pipeline (Dat)

namespace Cert.Retention

open Cert.ReferenceIdeal Cert.ReferenceIdeal.Gen Cert.ReferenceIdeal.Step

theorem trips_kv (a0 : FVec Ideal S16384x17408 .f32) (j : ℕ) : (trips a0 j).main_v76_0 = kv a0 := by
  induction j with
  | zero => rfl
  | succ j ih => exact ih

theorem trips_zero (a0 : FVec Ideal S16384x17408 .f32) (b h : Fin 4) (d e : Fin 256) :
    ((trips a0 0).main_v76_3 : FVec Ideal S4x4x256x256 .f32) (ix4 b h d e) = 0 := by
  show (K_main_v74 (F := Ideal) : FVec Ideal S4x4x256x256 .f32) (ix4 b h d e) = 0
  pointwise [K_main_v74, K_main_cst_7]

section Trip

variable (j : ℕ) (hj : j < 32)

include hj in
theorem slices_read : S32x4x4x256x256.Slices ![j, 0, 0, 0, 0] S1x4x4x256x256 :=
  ⟨rfl, fun a => by fin_cases a <;> first | (show j + 1 ≤ 32; omega) | (show 0 + 4 ≤ 4; omega) | (show 0 + 256 ≤ 256; omega)⟩

include hj in
/-- The starts of a trip's slices: the trip's number on the first axis and zero on the others. -/
theorem starts (z : Fin 4 → (⟨S_, .i32⟩ : BufTy).Contents (Elt Ideal)) (hz : ∀ a, z a = constantI S_ 32 0#32) (a : Fin 5) :
    (((![(constantI S_ 32 (BitVec.ofNat 32 j) : (⟨S_, .i32⟩ : BufTy).Contents (Elt Ideal)), z 0, z 1, z 2, z 3]
        : Fin 5 → (⟨S_, .i32⟩ : BufTy).Contents (Elt Ideal))) a (Shape.Idx.first h_S_)).toInt
      = ((![j, 0, 0, 0, 0] : Fin 5 → ℕ) a : Int) := by
  simp only [hz]
  fin_cases a
  · exact toInt_ofNat_of_lt (k := j) (by omega)
  all_goals rfl

theorem read_at (x : FVec Ideal S32x4x4x256x256 .f32) (hs) (b h : Fin 4) (d e : Fin 256) :
    shapeCast S4x4x256x256 (extractStridedSlice S1x4x4x256x256 ![j, 0, 0, 0, 0] x hs) shapeCasts_S1x4x4x256x256_S4x4x256x256 (ix4 b h d e)
      = x (ix5 ⟨j, hj⟩ b h d e) := by
  pointwise

theorem write_at (x : FVec Ideal S32x4x4x256x256 .f32) (w : FVec Ideal S4x4x256x256 .f32) (hs) (n : Fin 32) (b h : Fin 4) (d e : Fin 256) :
    updateSlice x (broadcastInDim S1x4x4x256x256 ![1, 2, 3, 4] bcast_S4x4x256x256_S1x4x4x256x256_1_2_3_4 w) ![j, 0, 0, 0, 0] hs (ix5 n b h d e)
      = if n.val = j then w (ix4 b h d e) else x (ix5 n b h d e) := by
  pointwise
  exact if_congr (by omega) rfl rfl

variable (s : State Ideal)

theorem decayed (w : FVec Ideal S4x4x256x256 .f32) (u : FVec Ideal S4x4x256x256 .f32) (b h : Fin 4) (d e : Fin 256) :
    addf (mulf (broadcastInDim S4x4x256x256 ![0, 1, 2, 3] bcast_S1x4x1x1_S4x4x256x256_0_1_2_3 (K_main_v71 (F := Ideal) : FVec Ideal S1x4x1x1 .f32)) w) u (ix4 b h d e)
      = Ideal.exp (lgT (ix1 h) * Ideal.ofBits .f32 0x43000000#32) * w (ix4 b h d e) + u (ix4 b h d e) := by
  pointwise [K_main_v71, K_main_v70, K_main_v69, K_main_v68, K_main_cst_6]

/-- The state after a trip. -/
theorem step_state (b h : Fin 4) (d e : Fin 256) :
    ((step j s).main_v76_3 : FVec Ideal S4x4x256x256 .f32) (ix4 b h d e)
      = Ideal.exp (lgT (ix1 h) * Ideal.ofBits .f32 0x43000000#32) * (s.main_v76_3 : FVec Ideal S4x4x256x256 .f32) (ix4 b h d e)
        + (s.main_v76_0 : FVec Ideal S32x4x4x256x256 .f32) (ix5 ⟨j, hj⟩ b h d e) := by
  rw [step_main_v76_3]
  have e4 : b4 j s = extractStridedSlice S1x4x4x256x256 ![j, 0, 0, 0, 0] s.main_v76_0 (slices_read j hj) :=
    Host.dynamicSlice_eq_extractStridedSlice _ _ _ _ _ _ (starts j hj ![b0 j s, b1 j s, b2 j s, b3 j s] (by intro a; fin_cases a <;> rfl))
  delta b8 b7 b6 b5
  rw [e4]
  rw [decayed]
  rw [read_at j hj]

include hj in
/-- The stack after a trip. -/
theorem step_stack (n : Fin 32) (b h : Fin 4) (d e : Fin 256) :
    ((step j s).main_v76_4 : FVec Ideal S32x4x4x256x256 .f32) (ix5 n b h d e)
      = if n.val = j then (s.main_v76_3 : FVec Ideal S4x4x256x256 .f32) (ix4 b h d e)
        else (s.main_v76_4 : FVec Ideal S32x4x4x256x256 .f32) (ix5 n b h d e) := by
  rw [step_main_v76_4]
  have e14 : b14 j s = updateSlice s.main_v76_4 (b9 j s) ![j, 0, 0, 0, 0] (slices_read j hj) :=
    WordCmp.dynamicUpdateSlice_eq_update _ _ _ _ _ _ (starts j hj ![b10 j s, b11 j s, b12 j s, b13 j s] (by intro a; fin_cases a <;> rfl))
  rw [e14]
  delta b9
  exact write_at j _ _ _ n b h d e

end Trip

/-- The state that the stack holds for a chunk after the loop is the one the loop had before that chunk's trip. -/
theorem stack_at (a0 : FVec Ideal S16384x17408 .f32) (n : Fin 32) (b h : Fin 4) (d e : Fin 256) :
    ((trips a0 32).main_v76_4 : FVec Ideal S32x4x4x256x256 .f32) (ix5 n b h d e)
      = ((trips a0 n.val).main_v76_3 : FVec Ideal S4x4x256x256 .f32) (ix4 b h d e) := by
  have key : ∀ j : ℕ, n.val < j → j ≤ 32 → ((trips a0 j).main_v76_4 : FVec Ideal S32x4x4x256x256 .f32) (ix5 n b h d e)
      = ((trips a0 n.val).main_v76_3 : FVec Ideal S4x4x256x256 .f32) (ix4 b h d e) := by
    intro j
    induction j with
    | zero => intro hlt; omega
    | succ j ih =>
      intro hlt hle
      refine (step_stack j (by omega) (trips a0 j) n b h d e).trans ?_
      split
      · next hn => rw [hn]
      · next hn => exact ih (by omega) (by omega)
  exact key 32 n.isLt le_rfl

/-- The states that the chunks find. -/
abbrev found (a0 : FVec Ideal S16384x17408 .f32) : FVec Ideal S32x4x4x256x256 .f32 := (trips a0 32).main_v76_4

/-- The loop's state after `j` trips, at an entry. -/
abbrev stateAt (a0 : FVec Ideal S16384x17408 .f32) (j : ℕ) : FVec Ideal S4x4x256x256 .f32 := (trips a0 j).main_v76_3

/-- The next state is what a chunk makes of the state it finds. -/
theorem stateAt_succ (a0 : FVec Ideal S16384x17408 .f32) (n : Fin 32) (b h : Fin 4) (d e : Fin 256) :
    stateAt a0 (n.val + 1) (ix4 b h d e)
      = Ideal.exp (lgT (ix1 h) * Ideal.ofBits .f32 0x43000000#32) * found a0 (ix5 n b h d e) + kv a0 (ix5 n b h d e) := by
  rw [show found a0 (ix5 n b h d e) = stateAt a0 n.val (ix4 b h d e) from stack_at a0 n b h d e]
  refine (step_state n.val n.isLt (trips a0 n.val) b h d e).trans ?_
  rw [trips_kv]

end Cert.Retention

end
-- ==== Proof.RetPoint.lean ====
/- What one grid point of the retention kernel leaves: the states after its four chunks, and its row block, both from the
   blocks the point is handed and the states it finds. -/
module

public import proofs.«01_k».proof.Proof.RetChunk

@[expose] public section

set_option maxRecDepth 65536

noncomputable section

open Idealize.ShloMosaic Idealize.ShloMosaic.TcCoe Idealize.SL.Sem
open Idealize.ShloMosaic.Pipeline (Dat)

namespace Cert.Retention

open Cert.KernelIdeal Cert.KernelIdeal.Gen

variable (m : (ℓ : Loc nD τ sig) → Buf (Elt Ideal) ℓ)

/-- The states a later point of a sequence leaves, from the states the point before left. -/
theorem states_B (c : Dev nD) (t : Fin cfg0.N) (h : ¬ t.val % 8 = 0) :
    (outsAt0 m c t.val t.isLt).2 = sts (iblk m c 0 t) (iblk m c 2 t) (iblk m c 3 t) (iblk m c 5 t) (iblk m c 6 t)
      (outsAt0 m c (t.val - 1) (by omega)).2 := by
  rw [outsAt0_B m c t h]
  frame_open
  simp (disch := decide) only [↓ View.readCov_skip, ↓ View.readCov_cons_toLoadRect, ↓ View.readCov_fill, View.readAt_eq_ld,
    Memref.IsWhole.read_unread, read_unread_whole, View.read_writes_junk_eq_canon]
  simp only [ld_part, ld_tab, ld_gain, ld_head, ld_lg]
  funext y
  simp only [canon_lead]
  unfold sts
  have hy : (y 0).val = 0 ∨ (y 0).val = 1 ∨ (y 0).val = 2 ∨ (y 0).val = 3 := by
    have : (y 0).val < 4 := (y 0).isLt
    omega
  rcases hy with e | e | e | e <;> rw [e] <;> simp (decide := true) only [if_true, if_false] <;> rfl

/-- The states a sequence's first point leaves, from zeros. -/
theorem states_A (c : Dev nD) (t : Fin cfg0.N) (h : t.val % 8 = 0) :
    (outsAt0 m c t.val t.isLt).2 = sts (iblk m c 0 t) (iblk m c 2 t) (iblk m c 3 t) (iblk m c 5 t) (iblk m c 6 t)
      (k0_pay2 (F := Ideal)) := by
  rw [outsAt0_A m c t h]
  frame_open
  simp (disch := decide) only [↓ View.readCov_skip, ↓ View.readCov_cons_toLoadRect, ↓ View.readCov_fill, View.readAt_eq_ld,
    Memref.IsWhole.read_unread, read_unread_whole, View.read_writes_junk_eq_canon]
  simp only [ld_part, ld_tab, ld_gain, ld_head, ld_lg]
  funext y
  simp only [canon_lead]
  unfold sts
  have hy : (y 0).val = 0 ∨ (y 0).val = 1 ∨ (y 0).val = 2 ∨ (y 0).val = 3 := by
    have : (y 0).val < 4 := (y 0).isLt
    omega
  rcases hy with e | e | e | e <;> rw [e] <;> simp (decide := true) only [if_true, if_false] <;> rfl

/-- `blk_tile` at a point's blocks. -/
theorem tileAt (c : Dev nD) (t : Fin cfg0.N) (X : FVec Ideal S4x256x256 .f32) (h k : ℕ) (inb) (x : S128x256.Idx) :
    rowsOf (iblk m c 0 t) (iblk m c 1 t) (iblk m c 2 t) (iblk m c 3 t) (iblk m c 4 t) (iblk m c 5 t) (iblk m c 6 t) (iblk m c 7 t) X h k x
      = blk (iblk m c 0 t) (iblk m c 1 t) (iblk m c 2 t) (iblk m c 3 t) (iblk m c 4 t) (iblk m c 5 t) (iblk m c 6 t) (iblk m c 7 t) X
        ((Rect.unit (s := S512x1024) ![128 * k, 256 * h] ![128, 256] inb).emb x) :=
  blk_tile _ _ _ _ _ _ _ _ _ h k inb x

set_option maxHeartbeats 2000000 in
/-- The row block a later point of a sequence stores. -/
theorem rows_B (c : Dev nD) (t : Fin cfg0.N) (h : ¬ t.val % 8 = 0) :
    (outsAt0 m c t.val t.isLt).1 = blk (iblk m c 0 t) (iblk m c 1 t) (iblk m c 2 t) (iblk m c 3 t) (iblk m c 4 t) (iblk m c 5 t) (iblk m c 6 t) (iblk m c 7 t)
      (outsAt0 m c (t.val - 1) (by omega)).2 := by
  rw [outsAt0_B m c t h]
  frame_open
  simp (disch := decide) only [↓ View.readCov_skip, ↓ View.readCov_cons_toLoadRect, ↓ View.readCov_fill, View.readAt_eq_ld,
    Memref.IsWhole.read_unread, read_unread_whole, View.read_writes_junk_eq_canon]
  simp only [ld_part, ld_tab, ld_gain, ld_head, ld_lg]
  funext y
  refine View.canon_apply_of_pieces _ _ (View.PiecesOf.mem ?_) y ?_
  · refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · exact tileAt m c t _ 3 3 (by decide) x
    · exact tileAt m c t _ 3 2 (by decide) x
    · exact tileAt m c t _ 3 1 (by decide) x
    · exact tileAt m c t _ 3 0 (by decide) x
    · exact tileAt m c t _ 2 3 (by decide) x
    · exact tileAt m c t _ 2 2 (by decide) x
    · exact tileAt m c t _ 2 1 (by decide) x
    · exact tileAt m c t _ 2 0 (by decide) x
    · exact tileAt m c t _ 1 3 (by decide) x
    · exact tileAt m c t _ 1 2 (by decide) x
    · exact tileAt m c t _ 1 1 (by decide) x
    · exact tileAt m c t _ 1 0 (by decide) x
    · exact tileAt m c t _ 0 3 (by decide) x
    · exact tileAt m c t _ 0 2 (by decide) x
    · exact tileAt m c t _ 0 1 (by decide) x
    · exact tileAt m c t _ 0 0 (by decide) x
  · exact View.cover_of_tiledL _ ![128, 256] (by sl_kernel_rfl) y

set_option maxHeartbeats 2000000 in
/-- The row block a sequence's first point stores. -/
theorem rows_A (c : Dev nD) (t : Fin cfg0.N) (h : t.val % 8 = 0) :
    (outsAt0 m c t.val t.isLt).1 = blk (iblk m c 0 t) (iblk m c 1 t) (iblk m c 2 t) (iblk m c 3 t) (iblk m c 4 t) (iblk m c 5 t) (iblk m c 6 t) (iblk m c 7 t)
      (k0_pay2 (F := Ideal)) := by
  rw [outsAt0_A m c t h]
  frame_open
  simp (disch := decide) only [↓ View.readCov_skip, ↓ View.readCov_cons_toLoadRect, ↓ View.readCov_fill, View.readAt_eq_ld,
    Memref.IsWhole.read_unread, read_unread_whole, View.read_writes_junk_eq_canon]
  simp only [ld_part, ld_tab, ld_gain, ld_head, ld_lg]
  funext y
  refine View.canon_apply_of_pieces _ _ (View.PiecesOf.mem ?_) y ?_
  · refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · exact tileAt m c t _ 3 3 (by decide) x
    · exact tileAt m c t _ 3 2 (by decide) x
    · exact tileAt m c t _ 3 1 (by decide) x
    · exact tileAt m c t _ 3 0 (by decide) x
    · exact tileAt m c t _ 2 3 (by decide) x
    · exact tileAt m c t _ 2 2 (by decide) x
    · exact tileAt m c t _ 2 1 (by decide) x
    · exact tileAt m c t _ 2 0 (by decide) x
    · exact tileAt m c t _ 1 3 (by decide) x
    · exact tileAt m c t _ 1 2 (by decide) x
    · exact tileAt m c t _ 1 1 (by decide) x
    · exact tileAt m c t _ 1 0 (by decide) x
    · exact tileAt m c t _ 0 3 (by decide) x
    · exact tileAt m c t _ 0 2 (by decide) x
    · exact tileAt m c t _ 0 1 (by decide) x
    · exact tileAt m c t _ 0 0 (by decide) x
  · exact View.cover_of_tiledL _ ![128, 256] (by sl_kernel_rfl) y

end Cert.Retention

end
-- ==== Proof.RetBlocks.lean ====
/- The blocks of the retention kernel's grid points: where the operands' entries come from, and the tables that the host makes
   before the call, which are the reference's own. -/
module

public import proofs.«01_k».proof.Proof.RetRefAt
public import proofs.«01_k».proof.Proof.RetPoint

@[expose] public section

set_option maxRecDepth 65536

noncomputable section

open Idealize.ShloMosaic Idealize.ShloMosaic.TcCoe Idealize.SL.Sem
open Idealize.ShloMosaic.Pipeline (Dat)

namespace Cert.Retention

open Cert.KernelIdeal Cert.KernelIdeal.Gen

variable (m : (ℓ : Loc nD τ sig) → Buf (Elt Ideal) ℓ)

/-- The windows' block indices: point `t` is row block `t`, and row block `t % 8` of the tables. -/
theorem idx : ∀ t : Fin cfg0.N, win0_0.index t = ![0] ∧ win0_1.index t = ![t.val, 0] ∧ win0_2.index t = ![t.val, 1]
    ∧ win0_3.index t = ![t.val, 2] ∧ win0_4.index t = ![t.val, 3] ∧ win0_5.index t = ![t.val % 8, 0]
    ∧ win0_6.index t = ![t.val % 8, 0] ∧ win0_7.index t = ![0, 0] ∧ win0_8.index t = ![t.val, 0] :=
  (by decide +kernel : ∀ t : Fin grid0.N, _)

theorem lt_points (t : Fin cfg0.N) : t.val < 32 := t.isLt

section Host

open Cert.ReferenceIdeal.Step in
theorem host_lg (c : Dev nD) : V m c main_v7 = lgT := by
  unfold V
  after_reads_simp
  rfl

theorem host_cos (c : Dev nD) : V m c main_v23 = cosT := by
  unfold V
  after_reads_simp
  rfl

theorem host_sin (c : Dev nD) : V m c main_v24 = sinT := by
  unfold V
  after_reads_simp
  rfl

end Host

theorem lg_at (c : Dev nD) (t : Fin cfg0.N) (h : Fin 4) : (iblk m c 0 t : FVec Ideal S4 .f32) (ix1 h) = lgT (ix1 h) := by
  rw [← host_lg m c]
  blk_point [iblk, idx t]

theorem q_at (c : Dev nD) (t : Fin cfg0.N) (r : Fin 512) (x : Fin 1024) : (iblk m c 1 t : FVec Ideal S512x1024 .f32) (ix2 r x)
    = (m ((c : Thread nD τ).loc main_arg0) : FVec Ideal S16384x17408 .f32)
        (ix2 ⟨512 * t.val + r.val, by have := lt_points t; omega⟩ ⟨x.val, by omega⟩) := by
  blk_point [iblk, V, idx t]

theorem k_at (c : Dev nD) (t : Fin cfg0.N) (r : Fin 512) (x : Fin 1024) : (iblk m c 2 t : FVec Ideal S512x1024 .f32) (ix2 r x)
    = (m ((c : Thread nD τ).loc main_arg0) : FVec Ideal S16384x17408 .f32)
        (ix2 ⟨512 * t.val + r.val, by have := lt_points t; omega⟩ ⟨1024 + x.val, by omega⟩) := by
  blk_point [iblk, V, idx t]

theorem v_at (c : Dev nD) (t : Fin cfg0.N) (r : Fin 512) (x : Fin 1024) : (iblk m c 3 t : FVec Ideal S512x1024 .f32) (ix2 r x)
    = (m ((c : Thread nD τ).loc main_arg0) : FVec Ideal S16384x17408 .f32)
        (ix2 ⟨512 * t.val + r.val, by have := lt_points t; omega⟩ ⟨2048 + x.val, by omega⟩) := by
  blk_point [iblk, V, idx t]

theorem g_at (c : Dev nD) (t : Fin cfg0.N) (r : Fin 512) (x : Fin 1024) : (iblk m c 4 t : FVec Ideal S512x1024 .f32) (ix2 r x)
    = (m ((c : Thread nD τ).loc main_arg0) : FVec Ideal S16384x17408 .f32)
        (ix2 ⟨512 * t.val + r.val, by have := lt_points t; omega⟩ ⟨3072 + x.val, by omega⟩) := by
  blk_point [iblk, V, idx t]

theorem cos_at (c : Dev nD) (t : Fin cfg0.N) (r : Fin 512) (x : Fin 128) : (iblk m c 5 t : FVec Ideal S512x128 .f32) (ix2 r x)
    = cosT (ix2 ⟨512 * (t.val % 8) + r.val, by omega⟩ x) := by
  rw [← host_cos m c]
  blk_point [iblk, idx t]

theorem sin_at (c : Dev nD) (t : Fin cfg0.N) (r : Fin 512) (x : Fin 128) : (iblk m c 6 t : FVec Ideal S512x128 .f32) (ix2 r x)
    = sinT (ix2 ⟨512 * (t.val % 8) + r.val, by omega⟩ x) := by
  rw [← host_sin m c]
  blk_point [iblk, idx t]

theorem nrm_at (c : Dev nD) (t : Fin cfg0.N) (x : Fin 1024) : (iblk m c 7 t : FVec Ideal S1x1024 .f32) (ix2 0 x)
    = (m ((c : Thread nD τ).loc main_arg1) : FVec Ideal S1024 .f32) (ix1 x) := by
  blk_point [iblk, V, idx t]

end Cert.Retention

end
-- ==== Proof.RetFinal.lean ====
/- The retention kernel's result. By induction over the grid points the kept states are the reference's loop states at the
   chunks' ends, so every chunk of every row block stores the reference's rows, and the array is the reference's. -/
module

public import proofs.«01_k».proof.Proof.RetMatch
public import proofs.«01_k».proof.Proof.RetLoop
public import proofs.«01_k».proof.Proof.RetBlocks

@[expose] public section

set_option maxRecDepth 65536

noncomputable section

open Idealize.ShloMosaic Idealize.ShloMosaic.TcCoe Idealize.SL.Sem
open Idealize.ShloMosaic.Pipeline (Dat)

namespace Cert.Retention

open Cert.KernelIdeal Cert.KernelIdeal.Gen

variable (m : (ℓ : Loc nD τ sig) → Buf (Elt Ideal) ℓ)

/-- The projection on a core. -/
abbrev proj (c : Dev nD) : FVec Ideal S16384x17408 .f32 := m ((c : Thread nD τ).loc main_arg0)

/-- The gain on a core. -/
abbrev gainArr (c : Dev nD) : FVec Ideal S1024 .f32 := m ((c : Thread nD τ).loc main_arg1)

/-- The reference's array. -/
abbrev REF (c : Dev nD) : FVec Ideal S16384x1024 .bf16 := gated (rows (proj m c) (found (proj m c))) (proj m c) (gainArr m c)

/-- The batch of a grid point. -/
def batch (t : Fin cfg0.N) : Fin 4 := ⟨t.val / 8, by have := lt_points t; omega⟩

/-- The chunk `k` of a grid point, counted in its sequence. -/
def chunk (t : Fin cfg0.N) (k : Fin 4) : Fin 32 := ⟨t.val % 8 * 4 + k.val, by omega⟩

/-- Entries of a matrix at equal places are equal. -/
theorem entry_congr {a b : ℕ} {α : Type} (x : (⟨2, ![a, b]⟩ : Shape).Idx → α) {r r' : Fin a} {y y' : Fin b} (hr : r.val = r'.val)
    (hy : y.val = y'.val) : x (ix2 r y) = x (ix2 r' y') := by
  rw [Fin.ext hr, Fin.ext hy]

theorem part_at (X : FVec Ideal S512x1024 .f32) (a b : ℕ) (i : Fin 128) (d : Fin 256) :
    part X a b (ix2 i d) = X (ix2 ⟨(a + i.val) % 512, Nat.mod_lt _ (by decide)⟩ ⟨(b + d.val) % 1024, Nat.mod_lt _ (by decide)⟩) := rfl

theorem tab_at (X : FVec Ideal S512x128 .f32) (a : ℕ) (i j : Fin 128) :
    tab X a (ix2 i j) = X (ix2 ⟨(a + i.val) % 512, Nat.mod_lt _ (by decide)⟩ j) := by
  have e : j = ⟨j.val % 128, Nat.mod_lt _ (by decide)⟩ := Fin.ext (Nat.mod_eq_of_lt j.isLt).symm
  conv_rhs => rw [e]
  rfl

theorem gain_at (X : FVec Ideal S1x1024 .f32) (b : ℕ) (e : Fin 256) :
    gain X b (ix2 0 e) = X (ix2 0 ⟨(b + e.val) % 1024, Nat.mod_lt _ (by decide)⟩) := rfl

/-- The row of a chunk's place in a point's block is that place's in the batch. -/
theorem row_eq (t : Fin cfg0.N) (k : Fin 4) (i : Fin 128) :
    512 * t.val + (128 * k.val + i.val) % 512 = t.val / 8 * 4096 + ((t.val % 8 * 4 + k.val) * 128 + i.val) := by
  omega

section Point

variable (c : Dev nD) (t : Fin cfg0.N) (X : FVec Ideal S4x256x256 .f32)

/-- The values loaded for chunk `k` and head `h` of a point, with a state that the chunk finds in the reference. -/
theorem loads (h k : Fin 4) (s : FVec Ideal S1x256x256 .f32)
    (hs : ∀ d e : Fin 256, s (ix3 0 d e) = stateAt (proj m c) (chunk t k).val (ix4 (batch t) h d e)) :
    Loads (proj m c) (found (proj m c)) (batch t) h (chunk t k) (lgOf (iblk m c 0 t) h.val)
      (tab (iblk m c 5 t) (128 * k.val)) (tab (iblk m c 6 t) (128 * k.val))
      (part (iblk m c 1 t) (128 * k.val) (256 * h.val)) (part (iblk m c 2 t) (128 * k.val) (256 * h.val))
      (part (iblk m c 3 t) (128 * k.val) (256 * h.val)) s where
  lg := (congrArg _ (congrArg ix1 (Fin.ext (Nat.mod_eq_of_lt h.isLt)))).trans (lg_at m c t h)
  cos := by
    intro i j
    rw [tab_at, cos_at]
    exact entry_congr cosT (by show 512 * (t.val % 8) + (128 * k.val + i.val) % 512 = (t.val % 8 * 4 + k.val) * 128 + i.val; omega) rfl
  sin := by
    intro i j
    rw [tab_at, sin_at]
    exact entry_congr sinT (by show 512 * (t.val % 8) + (128 * k.val + i.val) % 512 = (t.val % 8 * 4 + k.val) * 128 + i.val; omega) rfl
  q := by
    intro i d
    rw [part_at, q_at]
    exact entry_congr (proj m c) (row_eq t k i) (by show (256 * h.val + d.val) % 1024 = h.val * 256 + d.val; omega)
  k := by
    intro i d
    rw [part_at, k_at]
    exact entry_congr (proj m c) (row_eq t k i) (by show 1024 + (256 * h.val + d.val) % 1024 = 1024 + (h.val * 256 + d.val); omega)
  v := by
    intro i d
    rw [part_at, v_at]
    exact entry_congr (proj m c) (row_eq t k i) (by show 2048 + (256 * h.val + d.val) % 1024 = 2048 + (h.val * 256 + d.val); omega)
  s := fun d e => (hs d e).trans (stack_at (proj m c) (chunk t k) (batch t) h d e).symm

/-- The states found at a point, as the reference has them before the point's first chunk. -/
abbrev Found : Prop := ∀ (h : Fin 4) (d e : Fin 256), X (ix3 h d e) = stateAt (proj m c) (t.val % 8 * 4) (ix4 (batch t) h d e)

variable (hX : Found m c t X)

include hX

/-- The state of a head after `k` chunks of a point. -/
theorem st_eq (h : Fin 4) : ∀ (k : ℕ) (hk : k ≤ 4) (d e : Fin 256),
    st (iblk m c 0 t) (iblk m c 2 t) (iblk m c 3 t) (iblk m c 5 t) (iblk m c 6 t) X h.val k (ix3 0 d e)
      = stateAt (proj m c) (t.val % 8 * 4 + k) (ix4 (batch t) h d e) := by
  intro k
  induction k with
  | zero =>
    intro hk d e
    refine Eq.trans ?_ (hX h d e)
    refine congrArg X ?_
    funext x
    fin_cases x
    · exact Fin.ext (Nat.mod_eq_of_lt h.isLt)
    · exact Fin.ext (Nat.mod_eq_of_lt d.isLt)
    · exact Fin.ext (Nat.mod_eq_of_lt e.isLt)
  | succ k ih =>
    intro hk d e
    refine (stChunk_eq (loads m c t h ⟨k, by omega⟩ _ (ih (by omega))) d e).trans ?_
    exact (stateAt_succ (proj m c) (chunk t ⟨k, by omega⟩) (batch t) h d e).symm

/-- The states a point leaves. -/
theorem sts_eq (h : Fin 4) (d e : Fin 256) :
    sts (iblk m c 0 t) (iblk m c 2 t) (iblk m c 3 t) (iblk m c 5 t) (iblk m c 6 t) X (ix3 h d e)
      = stateAt (proj m c) (t.val % 8 * 4 + 4) (ix4 (batch t) h d e) :=
  st_eq m c t X hX h 4 le_rfl d e

/-- The rows a point stores. -/
theorem blk_eq (y : S512x1024.Idx) :
    blk (iblk m c 0 t) (iblk m c 1 t) (iblk m c 2 t) (iblk m c 3 t) (iblk m c 4 t) (iblk m c 5 t) (iblk m c 6 t) (iblk m c 7 t) X y
      = REF m c (ix2 ⟨512 * t.val + (y 0).val, by have := lt_points t; have : (y 0).val < 512 := (y 0).isLt; omega⟩ (y 1)) := by
  have h0 : (y 0).val < 512 := (y 0).isLt
  have h1 : (y 1).val < 1024 := (y 1).isLt
  have ht := lt_points t
  have hn : ∀ e : Fin 256, gain (iblk m c 7 t) (256 * ((y 1).val / 256)) (ix2 0 e)
      = gainArr m c (ix1 ⟨(y 1).val / 256 * 256 + e.val, by omega⟩) := by
    intro e
    rw [gain_at, nrm_at]
    exact congrArg (fun z => gainArr m c (ix1 z)) (Fin.ext (by show (256 * ((y 1).val / 256) + e.val) % 1024 = (y 1).val / 256 * 256 + e.val; omega))
  have hg : ∀ (i : Fin 128) (e : Fin 256), part (iblk m c 4 t) (128 * ((y 0).val / 128)) (256 * ((y 1).val / 256)) (ix2 i e)
      = proj m c (ix2 ⟨t.val / 8 * 4096 + ((t.val % 8 * 4 + (y 0).val / 128) * 128 + i.val), by omega⟩
          ⟨3072 + ((y 1).val / 256 * 256 + e.val), by omega⟩) := by
    intro i e
    rw [part_at, g_at]
    exact entry_congr (proj m c) (row_eq t ⟨(y 0).val / 128, by omega⟩ i)
      (by show 3072 + (256 * ((y 1).val / 256) + e.val) % 1024 = 3072 + ((y 1).val / 256 * 256 + e.val); omega)
  have L := loads m c t ⟨(y 1).val / 256, by omega⟩ ⟨(y 0).val / 128, by omega⟩ _
    (st_eq m c t X hX ⟨(y 1).val / 256, by omega⟩ ((y 0).val / 128) (by omega))
  refine (outChunk_eq L _ _ (gainArr m c) hn hg ⟨(y 0).val % 128, by omega⟩ ⟨(y 1).val % 256, by omega⟩).trans ?_
  exact entry_congr (REF m c)
    (by show t.val / 8 * 4096 + ((t.val % 8 * 4 + (y 0).val / 128) * 128 + (y 0).val % 128) = 512 * t.val + (y 0).val; omega)
    (by show (y 1).val / 256 * 256 + (y 1).val % 256 = (y 1).val; omega)

end Point

/-- The states a sequence starts from are zero, in the kernel and in the reference. -/
theorem found_first (c : Dev nD) (t : Fin cfg0.N) (h0 : t.val % 8 = 0) : Found m c t (k0_pay2 (F := Ideal)) := by
  intro h d e
  rw [h0]
  refine Eq.trans ?_ (trips_zero (proj m c) (batch t) h d e).symm
  pointwise [k0_pay2]

/-- The kept states after a point are the reference's after the point's last chunk. -/
theorem kept (c : Dev nD) : ∀ (n : ℕ) (hn : n < cfg0.N) (h : Fin 4) (d e : Fin 256),
    (outsAt0 m c n hn).2 (ix3 h d e) = stateAt (proj m c) (n % 8 * 4 + 4) (ix4 (batch ⟨n, hn⟩) h d e) := by
  intro n
  induction n with
  | zero =>
    intro hn h d e
    rw [states_A m c ⟨0, hn⟩ rfl]
    exact sts_eq m c ⟨0, hn⟩ _ (found_first m c ⟨0, hn⟩ rfl) h d e
  | succ n ih =>
    intro hn h d e
    by_cases h0 : (n + 1) % 8 = 0
    · rw [states_A m c ⟨n + 1, hn⟩ h0]
      exact sts_eq m c ⟨n + 1, hn⟩ _ (found_first m c ⟨n + 1, hn⟩ h0) h d e
    · rw [states_B m c ⟨n + 1, hn⟩ h0]
      refine sts_eq m c ⟨n + 1, hn⟩ _ (fun h d e => (ih (Nat.lt_of_succ_lt hn) h d e).trans ?_) h d e
      have e1 : n % 8 * 4 + 4 = (n + 1) % 8 * 4 := by omega
      have e2 : batch ⟨n, Nat.lt_of_succ_lt hn⟩ = batch ⟨n + 1, hn⟩ := Fin.ext (by show n / 8 = (n + 1) / 8; omega)
      rw [e1, e2]

/-- The states found at a later point of a sequence. -/
theorem found_later (c : Dev nD) (t : Fin cfg0.N) (h0 : ¬ t.val % 8 = 0) :
    Found m c t (outsAt0 m c (t.val - 1) (by omega)).2 := by
  intro h d e
  refine (kept m c (t.val - 1) (by omega) h d e).trans ?_
  have e1 : (t.val - 1) % 8 * 4 + 4 = t.val % 8 * 4 := by omega
  have e2 : batch ⟨t.val - 1, by omega⟩ = batch t := Fin.ext (by show (t.val - 1) / 8 = t.val / 8; omega)
  rw [e1, e2]

/-- The rows stored at a point are the reference's. -/
theorem handed (c : Dev nD) (t : Fin cfg0.N) (y : S512x1024.Idx) :
    (outsAt0 m c t.val t.isLt).1 y
      = REF m c (ix2 ⟨512 * t.val + (y 0).val, by have := lt_points t; have : (y 0).val < 512 := (y 0).isLt; omega⟩ (y 1)) := by
  by_cases h0 : t.val % 8 = 0
  · rw [rows_A m c t h0]
    exact blk_eq m c t _ (found_first m c t h0) y
  · rw [rows_B m c t h0]
    exact blk_eq m c t _ (found_later m c t h0) y

/-- Where a block index of the result lies in the array. -/
theorem out_at (t : Fin cfg0.N) (y : S512x1024.Idx) :
    ((cfg0.win 8).blk t).view.emb y
      = (ix2 ⟨512 * t.val + (y 0).val, by have := lt_points t; have : (y 0).val < 512 := (y 0).isLt; omega⟩ (y 1) : S16384x1024.Idx) := by
  have h : win0_8.index t = ![t.val, 0] := (idx t).2.2.2.2.2.2.2.2
  funext x
  refine Fin.ext ?_
  refine (Pipeline.Window.rect_emb_val win0_8 t y x).trans ?_
  rw [h]
  fin_cases x
  · show t.val * 512 + (y 0).val = 512 * t.val + (y 0).val
    omega
  · show 0 * 1024 + (y 1).val = (y 1).val
    omega

/-- The result array after the run. -/
theorem final_gated (c : Dev nD) : (dats m 0 c).arrAt 8 (cfgs 0).N = REF m c := by
  refine (dats m 0 c).arrAt_eq_of_covers 8 _ (by decide +kernel) fun t _ y => ?_
  blk_simp
  rw [after0_8, handed]
  exact congrArg (REF m c) (out_at t y).symm

/-- The result array after the run is what the reference's operations after its loop make of the loop's last state. -/
theorem final (c : Dev nD) : (dats m 0 c).arrAt 8 (cfgs 0).N
    = Cert.ReferenceIdeal.Step.R_main_v239 (trips (proj m c) 32) (proj m c) (gainArr m c) :=
  (final_gated m c).trans (stages _ _ _).symm

theorem same {a a' : FVec Ideal S16384x17408 .f32} {b b' : FVec Ideal S1024 .f32} (ha : a = a') (hb : b = b') :
    Cert.ReferenceIdeal.Step.R_main_v239 (trips a 32) a b = Cert.ReferenceIdeal.Step.R_main_v239 (trips a' 32) a' b' := by
  rw [ha, hb]

/-- From equal arguments the reference's run and the kernel's leave the same array. -/
theorem equal (m' : (ℓ : Loc Cert.ReferenceIdeal.nD Cert.ReferenceIdeal.τ Cert.ReferenceIdeal.sig) → Buf (Elt Ideal) ℓ)
    (c : Dev Cert.ReferenceIdeal.nD)
    (h0 : m' ((c : Thread Cert.ReferenceIdeal.nD Cert.ReferenceIdeal.τ).loc Cert.ReferenceIdeal.main_arg0) = m ((c : Thread nD τ).loc main_arg0))
    (h1 : m' ((c : Thread Cert.ReferenceIdeal.nD Cert.ReferenceIdeal.τ).loc Cert.ReferenceIdeal.main_arg1) = m ((c : Thread nD τ).loc main_arg1)) :
    Cert.ReferenceIdeal.Value.out_main_v239 (Cert.ReferenceIdeal.Value.STEP^[32] (StableHlo.entryContents Cert.ReferenceIdeal.Value.preI m' c))
      = (dats m 0 c).arrAt 8 cfg0.N :=
  (out_eq m' c).trans ((same h0 h1).trans (final m c).symm)

end Cert.Retention

end
-- ==== Proof.FfnDown.lean ====
/- What the down projection with its final normalisation computes: the array the kernel leaves is the
   reference's own term, the row-normalised sum of the residual and the product. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDown

open Cert.Kernel2Ideal Cert.Kernel2Ideal.Gen

variable (m : (ℓ : Loc nD τ sig) → Buf (Elt Ideal) ℓ)

/-- The reference's array over activations, weights, residual and gain. -/
abbrev REF (x0 : FVec Ideal S16384x5632 .bf16) (x1 : FVec Ideal S2x5632x2048 .bf16)
    (x2 : FVec Ideal S16384x2048 .f32) (x3 : FVec Ideal Cert.Reference2Ideal.S2048 .f32) : FVec Ideal S16384x2048 .f32 :=
  Cert.Reference2Ideal.Read.val_main_v18 (F := Ideal) x0 x1 x2 x3

/-- The windows' block indices at every grid point: row block `t` of the row-blocked arrays, the whole of the others. -/
theorem idx : ∀ t : Fin cfg0.N, win0_0.index t = ![t.val, 0] ∧ win0_1.index t = ![1, 0, 0]
    ∧ win0_2.index t = ![t.val, 0] ∧ win0_3.index t = ![0, 0] ∧ win0_4.index t = ![t.val, 0] :=
  (by decide +kernel : ∀ t : Fin grid0.N, _)

/-- Block index `y` of grid point `t`: the body stores the reference's element. -/
theorem point (c : Dev nD) (t : Fin cfg0.N) (y : S512x2048.Idx) :
    k0_pay1 (iblk m c 2 t) (iblk m c 0 t) (iblk m c 1 t) (iblk m c 3 t) y
      = REF (m ((c : Thread nD τ).loc main_arg0)) (m ((c : Thread nD τ).loc main_arg1))
          (m ((c : Thread nD τ).loc main_arg2)) (m ((c : Thread nD τ).loc main_arg3)) (((cfg0.win 4).blk t).view.emb y) := by
  rw [REF, ← Cert.Reference2Ideal.Read.val_main_v18_eq]
  pointwise [k0_pay1]
  blk_point [iblk, V, idx t]

/-- The result array after the run. -/
theorem final (c : Dev nD) : (dats m 0 c).arrAt 4 (cfgs 0).N
    = REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.FfnDown

end
-- ==== Proof.MergeOut.lean ====
/- What the gated merge with its output projection computes: the array the kernel leaves is the reference's own
   term. The kernel makes each branch's gate in two column halves and sets the two merged halves side by side; the
   reference makes the whole row at once, so the last contraction is one sum on the one side and two on the other. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeOut

open Cert.Kernel3Ideal Cert.Kernel3Ideal.Gen

variable (m : (ℓ : Loc nD τ sig) → Buf (Elt Ideal) ℓ)

/-- The reference's array over the three branches, the projections that hold the gates, the four weights and the residual. -/
abbrev REF (x0 x1 x2 : FVec Ideal S16384x1024 .bf16) (x3 : FVec Ideal S16384x17408 .f32)
    (x4 x5 x6 : FVec Ideal S2x1024x2048 .bf16) (x7 : FVec Ideal S2x2048x2048 .bf16) (x8 : FVec Ideal S16384x2048 .f32) :
    FVec Ideal S16384x2048 .f32 :=
  Cert.Reference3Ideal.Read.val_main_v45 (F := Ideal) x0 x1 x2 x3 x4 x5 x6 x7 x8

/-- The windows' block indices at every grid point: row block `t`, the six gate halves at column blocks 11 to 16, and
    the second layer of the weights. -/
theorem idx : ∀ t : Fin cfg0.N, win0_0.index t = ![t.val, 0] ∧ win0_1.index t = ![t.val, 0] ∧ win0_2.index t = ![t.val, 0]
    ∧ win0_3.index t = ![t.val, 11] ∧ win0_4.index t = ![t.val, 12] ∧ win0_5.index t = ![t.val, 13]
    ∧ win0_6.index t = ![t.val, 14] ∧ win0_7.index t = ![t.val, 15] ∧ win0_8.index t = ![t.val, 16]
    ∧ win0_9.index t = ![1, 0, 0] ∧ win0_10.index t = ![1, 0, 0] ∧ win0_11.index t = ![1, 0, 0]
    ∧ win0_12.index t = ![1, 0, 0] ∧ win0_13.index t = ![t.val, 0] ∧ win0_14.index t = ![t.val, 0] :=
  (by decide +kernel : ∀ t : Fin grid0.N, _)

/-- Block index `y` of grid point `t`: the body stores the reference's element. -/
theorem point (c : Dev nD) (t : Fin cfg0.N) (y : S256x2048.Idx) :
    k0_pay1 (k0_pay2 (iblk m c 3 t) (iblk m c 0 t) (View.ld (iblk m c 9 t) r0_1) (iblk m c 5 t) (iblk m c 1 t)
        (View.ld (iblk m c 10 t) r0_1) (iblk m c 7 t) (iblk m c 2 t) (View.ld (iblk m c 11 t) r0_1))
      (k0_pay3 (iblk m c 4 t)) (iblk m c 0 t) (View.ld (iblk m c 9 t) r0_2) (iblk m c 6 t) (iblk m c 1 t)
      (View.ld (iblk m c 10 t) r0_2) (iblk m c 8 t) (iblk m c 2 t) (View.ld (iblk m c 11 t) r0_2) (iblk m c 13 t) (iblk m c 12 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (((cfg0.win 14).blk t).view.emb y) := by
  rw [REF, ← Cert.Reference3Ideal.Read.val_main_v45_eq]
  pointwise [k0_pay1, k0_pay2, k0_pay3]
  rw [Fin.sum_univ_two_halves 1024 1024 rfl fun x : Fin 2048 => _]
  simp only [Ideal.logistic]
  blk_point [iblk, V, idx t]

/-- The result array after the run. -/
theorem final (c : Dev nD) : (dats m 0 c).arrAt 14 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (dats m 0 c).arrAt_eq_of_covers 14 _ (by decide +kernel) fun t _ y => ?_
  blk_simp
  rw [after0_14]; frame_out
  exact point m c t y

end Cert.MergeOut

end
-- ==== Proof.NormMatmul.lean ====
/- What the input projection computes. A row block is normalised once, at the first of its seventeen column blocks, and
   kept for the other sixteen; so at every point the product is of the normalised row block with the point's column block
   of the weights, and the array the kernel leaves is the reference's own term. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormMatmul

open Cert.Kernel4Ideal Cert.Kernel4Ideal.Gen

variable (m : (ℓ : Loc nD τ sig) → Buf (Elt Ideal) ℓ)

/-- The reference's array over the residual stream, the gain and the weights. -/
abbrev REF (x0 : FVec Ideal S16384x2048 .f32) (x1 : FVec Ideal Cert.Reference4Ideal.S2048 .f32)
    (x2 : FVec Ideal S1x2048x17408 .bf16) : FVec Ideal S16384x17408 .f32 :=
  Cert.Reference4Ideal.Read.val_main_v15 (F := Ideal) x0 x1 x2

/-- The windows' block indices: point `t` is row block `t / 17`, column block `t % 17`. -/
theorem idx : ∀ t : Fin cfg0.N, win0_0.index t = ![t.val / 17, 0] ∧ win0_1.index t = ![0, 0]
    ∧ win0_2.index t = ![0, 0, t.val % 17] ∧ win0_3.index t = ![t.val / 17, t.val % 17] :=
  (by decide +kernel : ∀ t : Fin grid0.N, _)

/-- Two points of one row block read the same rows. -/
theorem rows_eq (c : Dev nD) (t t' : Fin cfg0.N) (h : t.val / 17 = t'.val / 17) :
    iblk m c 0 t = iblk m c 0 t' := by
  funext j
  blk_point [iblk, V, idx t, idx t', h]

/-- Every point reads the whole gain. -/
theorem gain_eq (c : Dev nD) (t t' : Fin cfg0.N) : iblk m c 1 t = iblk m c 1 t' := by
  funext j
  blk_point [iblk, V, idx t, idx t']

/-- The kept array after a point is the point's normalised row block. -/
theorem kept (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 17 = 0
    · rw [outsAt0_A m c ⟨n + 1, hn⟩ h0]; frame_out
    · rw [outsAt0_B m c ⟨n + 1, hn⟩ h0]
      refine (ih (Nat.lt_of_succ_lt hn)).trans ?_
      rw [rows_eq m c ⟨n, Nat.lt_of_succ_lt hn⟩ ⟨n + 1, hn⟩ (by simp only; omega),
        gain_eq m c ⟨n, Nat.lt_of_succ_lt hn⟩ ⟨n + 1, hn⟩]

/-- The array handed out after a point is the product of the point's normalised rows with its columns of the weights. -/
theorem handed (c : Dev nD) (t : Fin cfg0.N) :
    (outsAt0 m c t.val t.isLt).1 = k0_pay2 (k0_pay1 (iblk m c 0 t) (iblk m c 1 t)) (iblk m c 2 t) := by
  by_cases h0 : t.val % 17 = 0
  · rw [outsAt0_A m c t h0]; frame_out
  · have hp : t.val - 1 < cfg0.N := Nat.lt_of_le_of_lt (Nat.sub_le _ _) t.isLt
    have hk : (outsAt0 m c (t.val - 1) hp).2 = k0_pay1 (iblk m c 0 t) (iblk m c 1 t) := by
      rw [kept m c (t.val - 1) hp, rows_eq m c ⟨t.val - 1, hp⟩ t (by simp only; omega), gain_eq m c ⟨t.val - 1, hp⟩ t]
    rw [outsAt0_B m c t h0, ← hk]; frame_out
    simp only [read_unread_whole]

/-- Block index `y` of grid point `t`: the product is the reference's element. -/
theorem point (c : Dev nD) (t : Fin cfg0.N) (y : S1024x1024.Idx) :
    k0_pay2 (k0_pay1 (iblk m c 0 t) (iblk m c 1 t)) (iblk m c 2 t) y
      = REF (m ((c : Thread nD τ).loc main_arg0)) (m ((c : Thread nD τ).loc main_arg1))
          (m ((c : Thread nD τ).loc main_arg2)) (((cfg0.win 3).blk t).view.emb y) := by
  rw [REF, ← Cert.Reference4Ideal.Read.val_main_v15_eq]
  pointwise [k0_pay1, k0_pay2]
  blk_point [iblk, V, idx t]

/-- The result array after the run. -/
theorem final (c : Dev nD) : (dats m 0 c).arrAt 3 (cfgs 0).N
    = REF (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3, handed]
  exact point m c t y

end Cert.NormMatmul

end
-- ==== Proof.FfnUp.lean ====
/- What the up projection of the feed-forward computes. A row block is normalised once, at the first of its eleven column
   blocks, and kept for the other ten; so at every point the two products are of the normalised row block with the point's
   column blocks of the two weights, and the array the kernel leaves is the reference's own term. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnUp

open Cert.Kernel5Ideal Cert.Kernel5Ideal.Gen

variable (m : (ℓ : Loc nD τ sig) → Buf (Elt Ideal) ℓ)

/-- The reference's array over the residual stream, the gain and the two weights. -/
abbrev REF (x0 : FVec Ideal S16384x2048 .f32) (x1 : FVec Ideal Cert.Reference5Ideal.S2048 .f32)
    (x2 x3 : FVec Ideal S2x2048x5632 .bf16) : FVec Ideal S16384x5632 .bf16 :=
  Cert.Reference5Ideal.Read.val_main_v23 (F := Ideal) x0 x1 x2 x3

/-- The windows' block indices: point `t` is row block `t / 11`, column block `t % 11`, of the second layer's weights. -/
theorem idx : ∀ t : Fin cfg0.N, win0_0.index t = ![t.val / 11, 0] ∧ win0_1.index t = ![0, 0]
    ∧ win0_2.index t = ![1, 0, t.val % 11] ∧ win0_3.index t = ![1, 0, t.val % 11]
    ∧ win0_4.index t = ![t.val / 11, t.val % 11] :=
  (by decide +kernel : ∀ t : Fin grid0.N, _)

/-- Two points of one row block read the same rows. -/
theorem rows_eq (c : Dev nD) (t t' : Fin cfg0.N) (h : t.val / 11 = t'.val / 11) :
    iblk m c 0 t = iblk m c 0 t' := by
  funext j
  blk_point [iblk, V, idx t, idx t', h]

/-- Every point reads the whole gain. -/
theorem gain_eq (c : Dev nD) (t t' : Fin cfg0.N) : iblk m c 1 t = iblk m c 1 t' := by
  funext j
  blk_point [iblk, V, idx t, idx t']

/-- The kept array after a point is the point's normalised row block. -/
theorem kept (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 11 = 0
    · rw [outsAt0_A m c ⟨n + 1, hn⟩ h0]; frame_out
    · rw [outsAt0_B m c ⟨n + 1, hn⟩ h0]
      refine (ih (Nat.lt_of_succ_lt hn)).trans ?_
      rw [rows_eq m c ⟨n, Nat.lt_of_succ_lt hn⟩ ⟨n + 1, hn⟩ (by simp only; omega),
        gain_eq m c ⟨n, Nat.lt_of_succ_lt hn⟩ ⟨n + 1, hn⟩]

/-- The array handed out after a point is the gated product of the point's normalised rows with its columns of the weights. -/
theorem handed (c : Dev nD) (t : Fin cfg0.N) :
    (outsAt0 m c t.val t.isLt).1 = k0_pay2 (k0_pay1 (iblk m c 0 t) (iblk m c 1 t)) (iblk m c 2 t) (iblk m c 3 t) := by
  by_cases h0 : t.val % 11 = 0
  · rw [outsAt0_A m c t h0]; frame_out
  · have hp : t.val - 1 < cfg0.N := Nat.lt_of_le_of_lt (Nat.sub_le _ _) t.isLt
    have hk : (outsAt0 m c (t.val - 1) hp).2 = k0_pay1 (iblk m c 0 t) (iblk m c 1 t) := by
      rw [kept m c (t.val - 1) hp, rows_eq m c ⟨t.val - 1, hp⟩ t (by simp only; omega), gain_eq m c ⟨t.val - 1, hp⟩ t]
    rw [outsAt0_B m c t h0, ← hk]; frame_out
    simp only [read_unread_whole]

/-- Block index `y` of grid point `t`: the gated product is the reference's element. -/
theorem point (c : Dev nD) (t : Fin cfg0.N) (y : S1024x512.Idx) :
    k0_pay2 (k0_pay1 (iblk m c 0 t) (iblk m c 1 t)) (iblk m c 2 t) (iblk m c 3 t) y
      = REF (m ((c : Thread nD τ).loc main_arg0)) (m ((c : Thread nD τ).loc main_arg1))
          (m ((c : Thread nD τ).loc main_arg2)) (m ((c : Thread nD τ).loc main_arg3)) (((cfg0.win 4).blk t).view.emb y) := by
  rw [REF, ← Cert.Reference5Ideal.Read.val_main_v23_eq]
  pointwise [k0_pay1, k0_pay2]
  simp only [Ideal.logistic]
  blk_point [iblk, V, idx t]

/-- The result array after the run. -/
theorem final (c : Dev nD) : (dats m 0 c).arrAt 4 (cfgs 0).N
    = REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4, handed]
  exact point m c t y

end Cert.FfnUp

end
-- ==== Proof.FfnDownPlain.lean ====
/- What the down projection without normalisation computes, the first layer's: the array the kernel leaves is the
   reference's own term, the sum of the residual and the product. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownPlain

open Cert.Kernel6Ideal Cert.Kernel6Ideal.Gen

variable (m : (ℓ : Loc nD τ sig) → Buf (Elt Ideal) ℓ)

/-- The reference's array over activations, weights and residual. -/
abbrev REF (x0 : FVec Ideal S16384x5632 .bf16) (x1 : FVec Ideal S2x5632x2048 .bf16)
    (x2 : FVec Ideal S16384x2048 .f32) : FVec Ideal S16384x2048 .f32 :=
  Cert.Reference6Ideal.Read.val_main_v5 (F := Ideal) x0 x1 x2

/-- The windows' block indices at every grid point: row block `t` of the row-blocked arrays, the whole of the others. -/
theorem idx : ∀ t : Fin cfg0.N, win0_0.index t = ![t.val, 0] ∧ win0_1.index t = ![0, 0, 0]
    ∧ win0_2.index t = ![t.val, 0] ∧ win0_3.index t = ![0, 0] ∧ win0_4.index t = ![t.val, 0] :=
  (by decide +kernel : ∀ t : Fin grid0.N, _)

/-- Block index `y` of grid point `t`: the body stores the reference's element. -/
theorem point (c : Dev nD) (t : Fin cfg0.N) (y : S512x2048.Idx) :
    k0_pay1 (iblk m c 2 t) (iblk m c 0 t) (iblk m c 1 t) y
      = REF (m ((c : Thread nD τ).loc main_arg0)) (m ((c : Thread nD τ).loc main_arg1))
          (m ((c : Thread nD τ).loc main_arg2)) (((cfg0.win 4).blk t).view.emb y) := by
  rw [REF, ← Cert.Reference6Ideal.Read.val_main_v5_eq]
  pointwise [k0_pay1]
  blk_point [iblk, V, idx t]

/-- The result array after the run. -/
theorem final (c : Dev nD) : (dats m 0 c).arrAt 4 (cfgs 0).N
    = REF (m ((c : Thread nD τ).loc main_arg0)) (m ((c : Thread nD τ).loc main_arg1))
          (m ((c : Thread nD τ).loc main_arg2)) := by
  refine (dats m 0 c).arrAt_eq_of_covers 4 _ (by decide +kernel) fun t _ y => ?_
  blk_simp
  rw [after0_4]; frame_out
  exact point m c t y

end Cert.FfnDownPlain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Step
public import proofs.«01_k».proof.Proof.Gen.Reference2Ideal.Read
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.RetFinal
public import proofs.«01_k».proof.Proof.FfnDown
public import proofs.«01_k».proof.Proof.MergeOut
public import proofs.«01_k».proof.Proof.NormMatmul
public import proofs.«01_k».proof.Proof.FfnUp
public import proofs.«01_k».proof.Proof.FfnDownPlain
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- A reference's run leaves its arguments alone; it declares no semaphore, so every counter ends at zero. -/
theorem quiet1 : quiescent_ReferenceIdeal := fun m g _ =>
  (θ_run Cert.ReferenceIdeal.defs _ _).mono (fun r h => ⟨fun c => (h c).2, funext fun s => nomatch s⟩) (Cert.ReferenceIdeal.Value.run m g)

theorem quiet2 : quiescent_Reference2Ideal := fun m g _ =>
  (θ_run Cert.Reference2Ideal.defs _ _).mono (fun r h => ⟨fun c => (h c).2, funext fun s => nomatch s⟩) (Cert.Reference2Ideal.Value.run m g)

theorem quiet3 : quiescent_Reference3Ideal := fun m g _ =>
  (θ_run Cert.Reference3Ideal.defs _ _).mono (fun r h => ⟨fun c => (h c).2, funext fun s => nomatch s⟩) (Cert.Reference3Ideal.Value.run m g)

theorem quiet4 : quiescent_Reference4Ideal := fun m g _ =>
  (θ_run Cert.Reference4Ideal.defs _ _).mono (fun r h => ⟨fun c => (h c).2, funext fun s => nomatch s⟩) (Cert.Reference4Ideal.Value.run m g)

theorem quiet5 : quiescent_Reference5Ideal := fun m g _ =>
  (θ_run Cert.Reference5Ideal.defs _ _).mono (fun r h => ⟨fun c => (h c).2, funext fun s => nomatch s⟩) (Cert.Reference5Ideal.Value.run m g)

theorem quiet6 : quiescent_Reference6Ideal := fun m g _ =>
  (θ_run Cert.Reference6Ideal.defs _ _).mono (fun r h => ⟨fun c => (h c).2, funext fun s => nomatch s⟩) (Cert.Reference6Ideal.Value.run m g)

/-- The retention mixer and its reference leave the same array. -/
theorem retention_equal : algebraic_KernelIdeal_ReferenceIdeal := by
  pair_intro
  · run_from Cert.KernelIdeal.Value.run_blocks m g
  · run_from Cert.ReferenceIdeal.Value.run m' g'
    exact Cert.Retention.equal m m' c (hagree c).1 (hagree c).2

/-- The down projection and its reference leave the same array. -/
theorem ffn_down_equal : algebraic_Kernel2Ideal_Reference2Ideal := by
  pair_intro
  · run_from Cert.Kernel2Ideal.Value.run_blocks m g
  · run_from Cert.Reference2Ideal.Value.run m' g'
    exact (Cert.FfnDown.final m c).symm

/-- The gated merge and its reference leave the same array. -/
theorem merge_out_equal : algebraic_Kernel3Ideal_Reference3Ideal := by
  pair_intro
  · run_from Cert.Kernel3Ideal.Value.run_blocks m g
  · run_from Cert.Reference3Ideal.Value.run m' g'
    exact (Cert.MergeOut.final m c).symm

/-- The input projection and its reference leave the same array. -/
theorem norm_matmul_equal : algebraic_Kernel4Ideal_Reference4Ideal := by
  pair_intro
  · run_from Cert.Kernel4Ideal.Value.run_blocks m g
  · run_from Cert.Reference4Ideal.Value.run m' g'
    exact (Cert.NormMatmul.final m c).symm

/-- The up projection and its reference leave the same array. -/
theorem ffn_up_equal : algebraic_Kernel5Ideal_Reference5Ideal := by
  pair_intro
  · run_from Cert.Kernel5Ideal.Value.run_blocks m g
  · run_from Cert.Reference5Ideal.Value.run m' g'
    exact (Cert.FfnUp.final m c).symm

/-- The down projection without normalisation and its reference leave the same array. -/
theorem ffn_down_plain_equal : algebraic_Kernel6Ideal_Reference6Ideal := by
  pair_intro
  · run_from Cert.Kernel6Ideal.Value.run_blocks m g
  · run_from Cert.Reference6Ideal.Value.run m' g'
    exact (Cert.FfnDownPlain.final m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ,
  fun m ρ _ => Cert.KernelIdeal.Gen.frame m ρ,
  quiet1,
  fun m ρ _ => Cert.Kernel2.Gen.frame m ρ,
  fun m ρ _ => Cert.Kernel2Ideal.Gen.frame m ρ,
  quiet2,
  fun m ρ _ => Cert.Kernel3.Gen.frame m ρ,
  fun m ρ _ => Cert.Kernel3Ideal.Gen.frame m ρ,
  quiet3,
  fun m ρ _ => Cert.Kernel4.Gen.frame m ρ,
  fun m ρ _ => Cert.Kernel4Ideal.Gen.frame m ρ,
  quiet4,
  fun m ρ _ => Cert.Kernel5.Gen.frame m ρ,
  fun m ρ _ => Cert.Kernel5Ideal.Gen.frame m ρ,
  quiet5,
  fun m ρ _ => Cert.Kernel6.Gen.frame m ρ,
  fun m ρ _ => Cert.Kernel6Ideal.Gen.frame m ρ,
  quiet6,
  trivial, retention_equal, trivial, ffn_down_equal, trivial, merge_out_equal, trivial, norm_matmul_equal,
  trivial, ffn_up_equal, trivial, ffn_down_plain_equal⟩

end Cert.Proof

end
